-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "coef" .f32 0x3A83126F#32 ((1 / 1000 : ℝ) : EReal)
  ∧ IdealRules.named_const.Statement Cert.KernelIdeal.κ "balance" .f32 0xB988473D#32 (((1 / 1000) * ((Real.log (1 / 8)) * 8⁻¹) : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S8x2048 : Shape := ⟨2, ![8, 2048]⟩
abbrev S_ : Shape := ⟨0, ![]⟩

class Facts : Prop where
  bcast_S_S4x4096x2048 : S_.BroadcastsInDim S4x4096x2048 (![] : Fin 0 → Fin S4x4096x2048.rank)
  bcast_S_S2048x2048 : S_.BroadcastsInDim S2048x2048 (![] : Fin 0 → Fin S2048x2048.rank)
  bcast_S_S2048 : S_.BroadcastsInDim S2048 (![] : Fin 0 → Fin S2048.rank)
  bcast_S_S8x2048 : S_.BroadcastsInDim S8x2048 (![] : Fin 0 → Fin S8x2048.rank)

variable [Facts]

def fn {F : FTy → Type} [FloatOps F] (main_arg0 : FVec F S4x4096x2048 .f32) (main_arg1 : FVec F S2048x2048 .f32) (main_arg2 : FVec F S2048 .f32) (main_arg3 : FVec F S8x2048 .f32) : IVec S4x4096x2048 1 × IVec S2048x2048 1 × IVec S2048 1 × IVec S8x2048 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S8x2048 .f32 := Host.absf main_arg3
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  (main_v2, main_v5, main_v8, main_v11)
-- ==== Kernel.lean ====
abbrev S4x4096x2048 : Shape := ⟨3, ![4, 4096, 2048]⟩
abbrev S2048x2048 : Shape := ⟨2, ![2048, 2048]⟩
abbrev S2048 : Shape := ⟨1, ![2048]⟩
abbrev S8x2048 : Shape := ⟨2, ![8, 2048]⟩
abbrev S2048x8 : Shape := ⟨2, ![2048, 8]⟩
abbrev S1x2048 : Shape := ⟨2, ![1, 2048]⟩
abbrev S4x8 : Shape := ⟨2, ![4, 8]⟩
abbrev S1x1 : Shape := ⟨2, ![1, 1]⟩
abbrev S1x2048x2048 : Shape := ⟨3, ![1, 2048, 2048]⟩
abbrev S1x8 : Shape := ⟨2, ![1, 8]⟩
abbrev S1x512x2048 : Shape := ⟨3, ![1, 512, 2048]⟩
abbrev S512x2048 : Shape := ⟨2, ![512, 2048]⟩
abbrev S512x8 : Shape := ⟨2, ![512, 8]⟩
abbrev S512 : Shape := ⟨1, ![512]⟩
abbrev S512x1 : Shape := ⟨2, ![512, 1]⟩
abbrev S8 : Shape := ⟨1, ![8]⟩
abbrev S1x512x8 : Shape := ⟨3, ![1, 512, 8]⟩
abbrev S1 : Shape := ⟨1, ![1]⟩
abbrev S1x1x1 : Shape := ⟨3, ![1, 1, 1]⟩
abbrev S4x1 : Shape := ⟨2, ![4, 1]⟩
abbrev S4 : Shape := ⟨1, ![4]⟩
abbrev S_ : Shape := ⟨0, ![]⟩
abbrev S4x4096x8 : Shape := ⟨3, ![4, 4096, 8]⟩

abbrev nBuf : Space → Nat
  | .hbm => 14
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S8x2048, .f32⟩
  | .hbm, ⟨4, _⟩ => ⟨S2048x2048, .f32⟩
  | .hbm, ⟨5, _⟩ => ⟨S2048x2048, .bf16⟩
  | .hbm, ⟨6, _⟩ => ⟨S2048x8, .f32⟩
  | .hbm, ⟨7, _⟩ => ⟨S2048x8, .bf16⟩
  | .hbm, ⟨8, _⟩ => ⟨S1x2048, .f32⟩
  | .hbm, ⟨9, _⟩ => ⟨S4x8, .i32⟩
  | .hbm, ⟨10, _⟩ => ⟨S1x1, .f32⟩
  | .hbm, ⟨11, _⟩ => ⟨S_, .f32⟩
  | .hbm, ⟨12, _⟩ => ⟨S4x4096x8, .f32⟩
  | .hbm, ⟨13, _⟩ => ⟨S_, .f32⟩
  | .local _ .vmem, ⟨0, _⟩ => ⟨S2048x2048, .bf16⟩
  | .local _ .vmem, ⟨1, _⟩ => ⟨S2048x8, .bf16⟩
  | .local _ .vmem, ⟨2, _⟩ => ⟨S1x2048, .f32⟩
  | .local _ .vmem, ⟨3, _⟩ => ⟨S1x2048x2048, .f32⟩
  | .local _ .vmem, ⟨4, _⟩ => ⟨S1x2048x2048, .f32⟩
  | .local _ .vmem, ⟨5, _⟩ => ⟨S4x8, .i32⟩
  | .local _ .vmem, ⟨6, _⟩ => ⟨S1x1, .f32⟩
  | .local _ .vmem, ⟨7, _⟩ => ⟨S4x8, .f32⟩
  | .local _ .vmem, ⟨8, _⟩ => ⟨S1x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c3_i32 : BitVec 32 := 3#32
  let v178 : BitVec 1 := Scalar.cmpi .eq arg0 c3_i32
  let arg1 : BitVec 32 := BitVec.ofNat 32 (i 1).val
  let c1_i32 : BitVec 32 := 1#32
  let v179 : BitVec 1 := Scalar.cmpi .eq arg1 c1_i32
  let v180 : BitVec 1 := Scalar.andi v178 v179
  let v181 : BitVec 32 := Scalar.extui v180
  let c0_i32_76 : BitVec 32 := 0#32
  let v182 : BitVec 1 := Scalar.cmpi .ne v181 c0_i32_76
  v182

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "balance" => some (((1 / 1000) * ((Real.log (1 / 8)) * 8⁻¹) : ℝ) : EReal)
  | "coef" => some ((1 / 1000 : ℝ) : EReal)
  | _ => none
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S8x2048 : Shape := ⟨2, ![8, 2048]⟩
abbrev S1x1x2048 : Shape := ⟨3, ![1, 1, 2048]⟩
abbrev S4x4096x8 : Shape := ⟨3, ![4, 4096, 8]⟩
abbrev S_ : Shape := ⟨0, ![]⟩
abbrev S4x4096 : Shape := ⟨2, ![4, 4096]⟩
abbrev S4x4096x1 : Shape := ⟨3, ![4, 4096, 1]⟩
abbrev S4x8 : Shape := ⟨2, ![4, 8]⟩
abbrev S4 : Shape := ⟨1, ![4]⟩
abbrev S4x1 : Shape := ⟨2, ![4, 1]⟩
abbrev S4x8x1 : Shape := ⟨3, ![4, 8, 1]⟩
abbrev S4x8x2 : Shape := ⟨3, ![4, 8, 2]⟩
abbrev S4x1x8 : Shape := ⟨3, ![4, 1, 8]⟩
abbrev S8 : Shape := ⟨1, ![8]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S8x2048, .f32⟩
  | .hbm, ⟨4, _⟩ => ⟨S4x4096x2048, .f32⟩
  | .hbm, ⟨5, _⟩ => ⟨S1x1x2048, .f32⟩
  | .hbm, ⟨6, _⟩ => ⟨S4x4096x2048, .f32⟩
  | .hbm, ⟨7, _⟩ => ⟨S4x4096x2048, .f32⟩
  | .hbm, ⟨8, _⟩ => ⟨S4x4096x8, .f32⟩
  | .hbm, ⟨9, _⟩ => ⟨S_, .f32⟩
  | .hbm, ⟨10, _⟩ => ⟨S4x4096x8, .f32⟩
  | .hbm, ⟨11, _⟩ => ⟨S4x4096x8, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x8, .f32⟩
  | .hbm, ⟨19, _⟩ => ⟨S4x4096x8, .f32⟩
  | .hbm, ⟨20, _⟩ => ⟨S4x4096x8, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x8, .f32⟩
  | .hbm, ⟨25, _⟩ => ⟨S4x4096x8, .f32⟩
  | .hbm, ⟨26, _⟩ => ⟨S_, .f32⟩
  | .hbm, ⟨27, _⟩ => ⟨S4x8, .f32⟩
  | .hbm, ⟨28, _⟩ => ⟨S_, .f32⟩
  | .hbm, ⟨29, _⟩ => ⟨S4x8, .f32⟩
  | .hbm, ⟨30, _⟩ => ⟨S4x8, .f32⟩
  | .hbm, ⟨31, _⟩ => ⟨S4x8, .f32⟩
  | .hbm, ⟨32, _⟩ => ⟨S4x8, .i32⟩
  | .hbm, ⟨33, _⟩ => ⟨S_, .f32⟩
  | .hbm, ⟨34, _⟩ => ⟨S4x8, .f32⟩
  | .hbm, ⟨35, _⟩ => ⟨S4, .i32⟩
  | .hbm, ⟨36, _⟩ => ⟨S4x1, .i32⟩
  | .hbm, ⟨37, _⟩ => ⟨S_, .i32⟩
  | .hbm, ⟨38, _⟩ => ⟨S4x1, .i32⟩
  | .hbm, ⟨39, _⟩ => ⟨S4x1, .i1⟩
  | .hbm, ⟨40, _⟩ => ⟨S_, .i32⟩
  | .hbm, ⟨41, _⟩ => ⟨S4x1, .i32⟩
  | .hbm, ⟨42, _⟩ => ⟨S4x1, .i32⟩
  | .hbm, ⟨43, _⟩ => ⟨S4x1, .i32⟩
  | .hbm, ⟨44, _⟩ => ⟨S_, .i32⟩
  | .hbm, ⟨45, _⟩ => ⟨S4x8, .i32⟩
  | .hbm, ⟨46, _⟩ => ⟨S4x8, .i1⟩
  | .hbm, ⟨47, _⟩ => ⟨S_, .i32⟩
  | .hbm, ⟨48, _⟩ => ⟨S4x8, .i32⟩
  | .hbm, ⟨49, _⟩ => ⟨S4x8, .i32⟩
  | .hbm, ⟨50, _⟩ => ⟨S4x8, .i32⟩
  | .hbm, ⟨51, _⟩ => ⟨S4x8, .i32⟩
  | .hbm, ⟨52, _⟩ => ⟨S4x8x1, .i32⟩
  | .hbm, ⟨53, _⟩ => ⟨S4x8x1, .i32⟩
  | .hbm, ⟨54, _⟩ => ⟨S4x8x2, .i32⟩
  | .hbm, ⟨55, _⟩ => ⟨S_, .f32⟩
  | .hbm, ⟨56, _⟩ => ⟨S4x8, .f32⟩
  | .hbm, ⟨57, _⟩ => ⟨S4x8, .f32⟩
  | .hbm, ⟨58, _⟩ => ⟨S4x1x8, .f32⟩
  | .hbm, ⟨59, _⟩ => ⟨S4x4096x8, .f32⟩
  | .hbm, ⟨60, _⟩ => ⟨S_, .f32⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S8, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4x4096, .f32⟩
  | .hbm, ⟨80, _⟩ => ⟨S_, .f32⟩
  | .hbm, ⟨81, _⟩ => ⟨S4x4096, .f32⟩
  | .hbm, ⟨82, _⟩ => ⟨S4x4096, .f32⟩
  | .hbm, ⟨83, _⟩ => ⟨S4x4096x1, .f32⟩
  | .hbm, ⟨84, _⟩ => ⟨S4x4096x8, .f32⟩
  | .hbm, ⟨85, _⟩ => ⟨S4x4096x8, .f32⟩
  | .hbm, ⟨86, _⟩ => ⟨S4x4096x8, .f32⟩
  | .hbm, ⟨87, _⟩ => ⟨S_, .f32⟩
  | .hbm, ⟨88, _⟩ => ⟨S4x4096, .f32⟩
  | .hbm, ⟨89, _⟩ => ⟨S4x4096x1, .f32⟩
  | .hbm, ⟨90, _⟩ => ⟨S4x4096x8, .f32⟩
  | .hbm, ⟨91, _⟩ => ⟨S4x4096x8, .f32⟩
  | .hbm, ⟨92, _⟩ => ⟨S_, .f32⟩
  | .hbm, ⟨93, _⟩ => ⟨S4x4096x8, .f32⟩
  | .hbm, ⟨94, _⟩ => ⟨S4x4096x8, .f32⟩
  | .hbm, ⟨95, _⟩ => ⟨S4x4096x8, .f32⟩
  | .hbm, ⟨96, _⟩ => ⟨S4x4096x8, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_values : Ref sig .tc := ⟨.hbm, 31, rfl⟩
abbrev main_indices : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_cst_21 : Ref sig .tc := ⟨.hbm, 99, rfl⟩
abbrev main_v70 : Ref sig .tc := ⟨.hbm, 100, rfl⟩
abbrev main_cst_22 : Ref sig .tc := ⟨.hbm, 101, rfl⟩
abbrev main_cst_23 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Proof.Frames.lean ====
/-
  The claims of `01_k` that compare no result: each program runs and leaves its arguments as it found them, and the two
  constants the idealized kernel names are the values the certificate's table gives them.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy

@[expose] public section

noncomputable section

namespace Cert.Router

open Idealize.ShloMosaic Idealize.ShloMosaic.TcCoe Idealize.ShloMosaic.StableHlo Idealize.SL.Sem

/-- The kernel as printed runs and its arguments end unchanged. -/
theorem frame_kernel : Cert.quiescent_Kernel := fun m ρ _ => Cert.Kernel.Gen.frame m ρ

/-- The idealized kernel runs and its arguments end unchanged. -/
theorem frame_ideal : Cert.quiescent_KernelIdeal := fun m ρ _ => Cert.KernelIdeal.Gen.frame m ρ

/-- The idealized reference runs, its arguments end unchanged and, having no semaphore, every counter at zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two named constants: the loss coefficient 1/1000, and the balancing term the kernel folded. -/
theorem names : Cert.preserves_Kernel_KernelIdeal :=
  ⟨IdealRules.named_const.statement Cert.KernelIdeal.κ "coef" .f32 0x3A83126F#32 _ rfl,
   IdealRules.named_const.statement Cert.KernelIdeal.κ "balance" .f32 0xB988473D#32 _ rfl⟩

end Cert.Router

end
-- ==== Proof.Step.lean ====
/-
  What one grid point of the kernel leaves behind, as a function of the blocks it reads and of the two running sums
  it was handed. The body reads the point's 2048 tokens in four chunks of 512, and the four chunks go through the same
  operations; the first point starts both sums from zero, and the last one also writes the two results.
-/
module

public import proofs.«01_k».proof.Proof.Gen.KernelIdeal.Frame
public import Idealize.ShloMosaic.Lib.Pipeline.Value
public import Idealize.ShloMosaic.Lib.Pipeline.ValueKit

@[expose] public section

noncomputable section

namespace Cert.Router

open Cert.KernelIdeal Cert.KernelIdeal.Gen Idealize.ShloMosaic Idealize.ShloMosaic.TcCoe Idealize.SL.Sem

variable {F : FTy → Type} [FloatOps F] [Named F]

/-- The chunk of 512 tokens that starts at token `o` of the point's block. -/
def chunk (x3 : Vec F S1x2048x2048 .f32) (o : ℕ) (h : ∀ a, (![0, o, 0] : Fin 3 → ℕ) a + S1x512x2048.size a ≤ S1x2048x2048.size a) :
    Vec F S1x512x2048 .f32 :=
  View.ld x3 (Rect.unit (s := S1x2048x2048) ![0, o, 0] S1x512x2048.size h)

/-- The probabilities of a chunk's tokens. -/
abbrev chunkProb (x0 : Vec F S2048x2048 .bf16) (x1 : Vec F S2048x8 .bf16) (x2 : Vec F S1x2048 .f32) (x : Vec F S1x512x2048 .f32) :
    FVec F S512x8 .f32 := k0_pay22 x x0 x2 x1

/-- The probabilities of a point's tokens added up over the tokens, chunk after chunk. -/
def pointLoad (x0 : Vec F S2048x2048 .bf16) (x1 : Vec F S2048x8 .bf16) (x2 : Vec F S1x2048 .f32) (x3 : Vec F S1x2048x2048 .f32) :
    FVec F S1x8 .f32 :=
  k0_pay33 (k0_pay30 (k0_pay27 (k0_pay23 (chunk x3 0 inb_S1x2048x2048_S1x512x2048_0_0_0) x0 x2 x1)
    (chunk x3 512 inb_S1x2048x2048_S1x512x2048_0_512_0) x0 x2 x1)
    (chunk x3 1024 inb_S1x2048x2048_S1x512x2048_0_1024_0) x0 x2 x1)
    (chunk x3 1536 inb_S1x2048x2048_S1x512x2048_0_1536_0) x0 x2 x1

/-- The sum of `p log (p + ε)` over a point's tokens and experts, chunk after chunk. -/
def pointEnt (x0 : Vec F S2048x2048 .bf16) (x1 : Vec F S2048x8 .bf16) (x2 : Vec F S1x2048 .f32) (x3 : Vec F S1x2048x2048 .f32) :
    FVec F S1x1 .f32 :=
  k0_pay34 (k0_pay31 (k0_pay25 k0_pay21 (k0_pay22 (chunk x3 0 inb_S1x2048x2048_S1x512x2048_0_0_0) x0 x2 x1) k0_pay24)
    (k0_pay28 (chunk x3 512 inb_S1x2048x2048_S1x512x2048_0_512_0) x0 x2 x1)
    (chunk x3 1024 inb_S1x2048x2048_S1x512x2048_0_1024_0) x0 x2 x1)
    (chunk x3 1536 inb_S1x2048x2048_S1x512x2048_0_1536_0) x0 x2 x1

/-- The running loads after a point: the point's own loads go to its batch's row, the other rows get zero. -/
def loadStep (i : grid0.Coords) (x0 : Vec F S2048x2048 .bf16) (x1 : Vec F S2048x8 .bf16) (x2 : Vec F S1x2048 .f32)
    (x3 : Vec F S1x2048x2048 .f32) (s : Vec F S4x8 .f32) : FVec F S4x8 .f32 :=
  k0_pay1 (pointLoad x0 x1 x2 x3) (k0_pay35 (BitVec.ofNat 32 (i 0).val)) s

/-- The running sum of `p log (p + ε)` after a point. -/
def entStep (x0 : Vec F S2048x2048 .bf16) (x1 : Vec F S2048x8 .bf16) (x2 : Vec F S1x2048 .f32)
    (x3 : Vec F S1x2048x2048 .f32) (a : Vec F S1x1 .f32) : FVec F S1x1 .f32 :=
  k0_pay2 (pointEnt x0 x1 x2 x3) a

/-- Eight rounds of taking the first largest entry of each row and putting −∞ in its place: the positions taken. -/
def picks (v : Vec F S4x8 .f32) : IVec S4x8 32 :=
  k0_pay18 (iota .tc S4x8 32 [1] iota_S4x8_d1_w32)
    (k0_pay15 (iota .tc S4x8 32 [1] iota_S4x8_d1_w32) (k0_pay7 v) (k0_pay8 v) (k0_pay9 v))
    (k0_pay16 (iota .tc S4x8 32 [1] iota_S4x8_d1_w32) (k0_pay8 v) (k0_pay9 v))
    (k0_pay17 (iota .tc S4x8 32 [1] iota_S4x8_d1_w32) (k0_pay8 v) (k0_pay9 v))

/-- The first point leaves its own loads over zero. -/
theorem first_load (c : Dev nD) (i : grid0.Coords) (arg2 : Memref sig .tc .vmem S2048x2048 .bf16) (harg2 : arg2.IsWhole) (arg3 : Memref sig .tc .vmem S2048x8 .bf16) (harg3 : arg3.IsWhole) (arg4 : Memref sig .tc .vmem S1x2048 .f32) (harg4 : arg4.IsWhole) (arg5 : Memref sig .tc .vmem S1x2048x2048 .f32) (harg5 : arg5.IsWhole) (arg6 : Memref sig .tc .vmem S4x8 .i32) (harg6 : arg6.IsWhole) (arg7 : Memref sig .tc .vmem S1x1 .f32) (harg7 : arg7.IsWhole) (arg8 : Memref sig .tc .vmem S4x8 .f32) (harg8 : arg8.IsWhole) (arg9 : Memref sig .tc .vmem S1x1 .f32) (harg9 : arg9.IsWhole)
    (hc0 : cond0_0 i) (hc1 : ¬cond0_1 i) (x0 : Vec F S2048x2048 .bf16) (x1 : Vec F S2048x8 .bf16) (x2 : Vec F S1x2048 .f32) (x3 : Vec F S1x2048x2048 .f32) :
    sout0_A_0 c i arg2 harg2 arg3 harg3 arg4 harg4 arg5 harg5 arg6 harg6 arg7 harg7 arg8 harg8 arg9 harg9 hc0 hc1 x0 x1 x2 x3 = loadStep i x0 x1 x2 x3 k0_pay19 := by
  frame_out
  rfl

/-- The first point leaves its own sum over zero. -/
theorem first_ent (c : Dev nD) (i : grid0.Coords) (arg2 : Memref sig .tc .vmem S2048x2048 .bf16) (harg2 : arg2.IsWhole) (arg3 : Memref sig .tc .vmem S2048x8 .bf16) (harg3 : arg3.IsWhole) (arg4 : Memref sig .tc .vmem S1x2048 .f32) (harg4 : arg4.IsWhole) (arg5 : Memref sig .tc .vmem S1x2048x2048 .f32) (harg5 : arg5.IsWhole) (arg6 : Memref sig .tc .vmem S4x8 .i32) (harg6 : arg6.IsWhole) (arg7 : Memref sig .tc .vmem S1x1 .f32) (harg7 : arg7.IsWhole) (arg8 : Memref sig .tc .vmem S4x8 .f32) (harg8 : arg8.IsWhole) (arg9 : Memref sig .tc .vmem S1x1 .f32) (harg9 : arg9.IsWhole)
    (hc0 : cond0_0 i) (hc1 : ¬cond0_1 i) (x0 : Vec F S2048x2048 .bf16) (x1 : Vec F S2048x8 .bf16) (x2 : Vec F S1x2048 .f32) (x3 : Vec F S1x2048x2048 .f32) :
    sout0_A_1 c i arg2 harg2 arg3 harg3 arg4 harg4 arg5 harg5 arg6 harg6 arg7 harg7 arg8 harg8 arg9 harg9 hc0 hc1 x0 x1 x2 x3 = entStep x0 x1 x2 x3 k0_pay20 := by
  frame_out
  rfl

/-- A point in the middle adds its loads to what it was handed. -/
theorem mid_load (c : Dev nD) (i : grid0.Coords) (arg2 : Memref sig .tc .vmem S2048x2048 .bf16) (harg2 : arg2.IsWhole) (arg3 : Memref sig .tc .vmem S2048x8 .bf16) (harg3 : arg3.IsWhole) (arg4 : Memref sig .tc .vmem S1x2048 .f32) (harg4 : arg4.IsWhole) (arg5 : Memref sig .tc .vmem S1x2048x2048 .f32) (harg5 : arg5.IsWhole) (arg6 : Memref sig .tc .vmem S4x8 .i32) (harg6 : arg6.IsWhole) (arg7 : Memref sig .tc .vmem S1x1 .f32) (harg7 : arg7.IsWhole) (arg8 : Memref sig .tc .vmem S4x8 .f32) (harg8 : arg8.IsWhole) (arg9 : Memref sig .tc .vmem S1x1 .f32) (harg9 : arg9.IsWhole)
    (hc0 : ¬cond0_0 i) (hc1 : ¬cond0_1 i) (x0 : Vec F S2048x2048 .bf16) (x1 : Vec F S2048x8 .bf16) (x2 : Vec F S1x2048 .f32) (x3 : Vec F S1x2048x2048 .f32) (s : Vec F S4x8 .f32) (a : Vec F S1x1 .f32) :
    sout0_B_0 c i arg2 harg2 arg3 harg3 arg4 harg4 arg5 harg5 arg6 harg6 arg7 harg7 arg8 harg8 arg9 harg9 hc0 hc1 x0 x1 x2 x3 s a = loadStep i x0 x1 x2 x3 s := by
  frame_out
  rfl

/-- A point in the middle adds its sum to what it was handed. -/
theorem mid_ent (c : Dev nD) (i : grid0.Coords) (arg2 : Memref sig .tc .vmem S2048x2048 .bf16) (harg2 : arg2.IsWhole) (arg3 : Memref sig .tc .vmem S2048x8 .bf16) (harg3 : arg3.IsWhole) (arg4 : Memref sig .tc .vmem S1x2048 .f32) (harg4 : arg4.IsWhole) (arg5 : Memref sig .tc .vmem S1x2048x2048 .f32) (harg5 : arg5.IsWhole) (arg6 : Memref sig .tc .vmem S4x8 .i32) (harg6 : arg6.IsWhole) (arg7 : Memref sig .tc .vmem S1x1 .f32) (harg7 : arg7.IsWhole) (arg8 : Memref sig .tc .vmem S4x8 .f32) (harg8 : arg8.IsWhole) (arg9 : Memref sig .tc .vmem S1x1 .f32) (harg9 : arg9.IsWhole)
    (hc0 : ¬cond0_0 i) (hc1 : ¬cond0_1 i) (x0 : Vec F S2048x2048 .bf16) (x1 : Vec F S2048x8 .bf16) (x2 : Vec F S1x2048 .f32) (x3 : Vec F S1x2048x2048 .f32) (s : Vec F S4x8 .f32) (a : Vec F S1x1 .f32) :
    sout0_B_1 c i arg2 harg2 arg3 harg3 arg4 harg4 arg5 harg5 arg6 harg6 arg7 harg7 arg8 harg8 arg9 harg9 hc0 hc1 x0 x1 x2 x3 s a = entStep x0 x1 x2 x3 a := by
  frame_out
  rfl

/-- The last point writes the positions that the eight rounds take from the final loads. -/
theorem last_picks (c : Dev nD) (i : grid0.Coords) (arg2 : Memref sig .tc .vmem S2048x2048 .bf16) (harg2 : arg2.IsWhole) (arg3 : Memref sig .tc .vmem S2048x8 .bf16) (harg3 : arg3.IsWhole) (arg4 : Memref sig .tc .vmem S1x2048 .f32) (harg4 : arg4.IsWhole) (arg5 : Memref sig .tc .vmem S1x2048x2048 .f32) (harg5 : arg5.IsWhole) (arg6 : Memref sig .tc .vmem S4x8 .i32) (harg6 : arg6.IsWhole) (arg7 : Memref sig .tc .vmem S1x1 .f32) (harg7 : arg7.IsWhole) (arg8 : Memref sig .tc .vmem S4x8 .f32) (harg8 : arg8.IsWhole) (arg9 : Memref sig .tc .vmem S1x1 .f32) (harg9 : arg9.IsWhole)
    (hc0 : ¬cond0_0 i) (hc1 : cond0_1 i) (x0 : Vec F S2048x2048 .bf16) (x1 : Vec F S2048x8 .bf16) (x2 : Vec F S1x2048 .f32) (x3 : Vec F S1x2048x2048 .f32) (s : Vec F S4x8 .f32) (a : Vec F S1x1 .f32) :
    out0_C_4 c i arg2 harg2 arg3 harg3 arg4 harg4 arg5 harg5 arg6 harg6 arg7 harg7 arg8 harg8 arg9 harg9 hc0 hc1 x0 x1 x2 x3 s a = picks (loadStep i x0 x1 x2 x3 s) := by
  frame_out
  rfl

/-- The last point writes the loss of the final sum. -/
theorem last_loss (c : Dev nD) (i : grid0.Coords) (arg2 : Memref sig .tc .vmem S2048x2048 .bf16) (harg2 : arg2.IsWhole) (arg3 : Memref sig .tc .vmem S2048x8 .bf16) (harg3 : arg3.IsWhole) (arg4 : Memref sig .tc .vmem S1x2048 .f32) (harg4 : arg4.IsWhole) (arg5 : Memref sig .tc .vmem S1x2048x2048 .f32) (harg5 : arg5.IsWhole) (arg6 : Memref sig .tc .vmem S4x8 .i32) (harg6 : arg6.IsWhole) (arg7 : Memref sig .tc .vmem S1x1 .f32) (harg7 : arg7.IsWhole) (arg8 : Memref sig .tc .vmem S4x8 .f32) (harg8 : arg8.IsWhole) (arg9 : Memref sig .tc .vmem S1x1 .f32) (harg9 : arg9.IsWhole)
    (hc0 : ¬cond0_0 i) (hc1 : cond0_1 i) (x0 : Vec F S2048x2048 .bf16) (x1 : Vec F S2048x8 .bf16) (x2 : Vec F S1x2048 .f32) (x3 : Vec F S1x2048x2048 .f32) (s : Vec F S4x8 .f32) (a : Vec F S1x1 .f32) :
    out0_C_5 c i arg2 harg2 arg3 harg3 arg4 harg4 arg5 harg5 arg6 harg6 arg7 harg7 arg8 harg8 arg9 harg9 hc0 hc1 x0 x1 x2 x3 s a = k0_pay3 (entStep x0 x1 x2 x3 a) := by
  frame_out
  rfl

/-- The last point adds its loads to what it was handed. -/
theorem last_load (c : Dev nD) (i : grid0.Coords) (arg2 : Memref sig .tc .vmem S2048x2048 .bf16) (harg2 : arg2.IsWhole) (arg3 : Memref sig .tc .vmem S2048x8 .bf16) (harg3 : arg3.IsWhole) (arg4 : Memref sig .tc .vmem S1x2048 .f32) (harg4 : arg4.IsWhole) (arg5 : Memref sig .tc .vmem S1x2048x2048 .f32) (harg5 : arg5.IsWhole) (arg6 : Memref sig .tc .vmem S4x8 .i32) (harg6 : arg6.IsWhole) (arg7 : Memref sig .tc .vmem S1x1 .f32) (harg7 : arg7.IsWhole) (arg8 : Memref sig .tc .vmem S4x8 .f32) (harg8 : arg8.IsWhole) (arg9 : Memref sig .tc .vmem S1x1 .f32) (harg9 : arg9.IsWhole)
    (hc0 : ¬cond0_0 i) (hc1 : cond0_1 i) (x0 : Vec F S2048x2048 .bf16) (x1 : Vec F S2048x8 .bf16) (x2 : Vec F S1x2048 .f32) (x3 : Vec F S1x2048x2048 .f32) (s : Vec F S4x8 .f32) (a : Vec F S1x1 .f32) :
    sout0_C_0 c i arg2 harg2 arg3 harg3 arg4 harg4 arg5 harg5 arg6 harg6 arg7 harg7 arg8 harg8 arg9 harg9 hc0 hc1 x0 x1 x2 x3 s a = loadStep i x0 x1 x2 x3 s := by
  frame_out
  rfl

/-- The last point adds its sum to what it was handed. -/
theorem last_ent (c : Dev nD) (i : grid0.Coords) (arg2 : Memref sig .tc .vmem S2048x2048 .bf16) (harg2 : arg2.IsWhole) (arg3 : Memref sig .tc .vmem S2048x8 .bf16) (harg3 : arg3.IsWhole) (arg4 : Memref sig .tc .vmem S1x2048 .f32) (harg4 : arg4.IsWhole) (arg5 : Memref sig .tc .vmem S1x2048x2048 .f32) (harg5 : arg5.IsWhole) (arg6 : Memref sig .tc .vmem S4x8 .i32) (harg6 : arg6.IsWhole) (arg7 : Memref sig .tc .vmem S1x1 .f32) (harg7 : arg7.IsWhole) (arg8 : Memref sig .tc .vmem S4x8 .f32) (harg8 : arg8.IsWhole) (arg9 : Memref sig .tc .vmem S1x1 .f32) (harg9 : arg9.IsWhole)
    (hc0 : ¬cond0_0 i) (hc1 : cond0_1 i) (x0 : Vec F S2048x2048 .bf16) (x1 : Vec F S2048x8 .bf16) (x2 : Vec F S1x2048 .f32) (x3 : Vec F S1x2048x2048 .f32) (s : Vec F S4x8 .f32) (a : Vec F S1x1 .f32) :
    sout0_C_1 c i arg2 harg2 arg3 harg3 arg4 harg4 arg5 harg5 arg6 harg6 arg7 harg7 arg8 harg8 arg9 harg9 hc0 hc1 x0 x1 x2 x3 s a = entStep x0 x1 x2 x3 a := by
  frame_out
  rfl

end Cert.Router

end
-- ==== Proof.KernelRun.lean ====
/-
  The whole kernel, run: what its three result buffers hold when it stops. The two running sums after each grid point are
  one recursion on the point; the last point, the only one that writes back, leaves the two result blocks, and the two
  host operations after the kernel give the mask and the loss as a scalar.
-/
module

public import proofs.«01_k».proof.Proof.Step
public import Idealize.ShloMosaic.Lib.StableHlo.RunRead

@[expose] public section

noncomputable section

namespace Cert.Router

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The running loads after point `n`. -/
def loads (c : Dev nD) : (n : ℕ) → n < cfg0.N → Vec F S4x8 .f32
  | 0, h => loadStep (grid0.coords ⟨0, h⟩) (iblk m c 0 ⟨0, h⟩) (iblk m c 1 ⟨0, h⟩) (iblk m c 2 ⟨0, h⟩) (iblk m c 3 ⟨0, h⟩) k0_pay19
  | n + 1, h => loadStep (grid0.coords ⟨n + 1, h⟩) (iblk m c 0 ⟨n + 1, h⟩) (iblk m c 1 ⟨n + 1, h⟩) (iblk m c 2 ⟨n + 1, h⟩)
      (iblk m c 3 ⟨n + 1, h⟩) (loads c n (Nat.lt_of_succ_lt h))

/-- The running sum of `p log (p + ε)` after point `n`. -/
def ents (c : Dev nD) : (n : ℕ) → n < cfg0.N → Vec F S1x1 .f32
  | 0, h => entStep (iblk m c 0 ⟨0, h⟩) (iblk m c 1 ⟨0, h⟩) (iblk m c 2 ⟨0, h⟩) (iblk m c 3 ⟨0, h⟩) k0_pay20
  | n + 1, h => entStep (iblk m c 0 ⟨n + 1, h⟩) (iblk m c 1 ⟨n + 1, h⟩) (iblk m c 2 ⟨n + 1, h⟩)
      (iblk m c 3 ⟨n + 1, h⟩) (ents c n (Nat.lt_of_succ_lt h))

/-- The running loads one point further on. -/
theorem loads_succ (c : Dev nD) (n : ℕ) (h : n + 1 < cfg0.N) :
    loads m c (n + 1) h = loadStep (grid0.coords ⟨n + 1, h⟩) (iblk m c 0 ⟨n + 1, h⟩) (iblk m c 1 ⟨n + 1, h⟩) (iblk m c 2 ⟨n + 1, h⟩)
      (iblk m c 3 ⟨n + 1, h⟩) (loads m c n (Nat.lt_of_succ_lt h)) := rfl

/-- The running sum of `p log (p + ε)` one point further on. -/
theorem ents_succ (c : Dev nD) (n : ℕ) (h : n + 1 < cfg0.N) :
    ents m c (n + 1) h = entStep (iblk m c 0 ⟨n + 1, h⟩) (iblk m c 1 ⟨n + 1, h⟩) (iblk m c 2 ⟨n + 1, h⟩)
      (iblk m c 3 ⟨n + 1, h⟩) (ents m c n (Nat.lt_of_succ_lt h)) := rfl

/-- The two carried sums after a point are the recursion's. -/
theorem carried_eq (c : Dev nD) : ∀ (n : ℕ) (h : n < cfg0.N), (outsAt0 m c n h).2.2 = (loads m c n h, ents m c n h)
  | 0, h => by
    rw [outsAt0_A m c ⟨0, h⟩ rfl (by dsimp only; omega)]
    refine Prod.ext ?_ ?_
    · dsimp only
      rw [first_load]; rfl
    · dsimp only
      rw [first_ent]; rfl
  | n + 1, h => by
    have hN : cfg0.N = 8 := N_0
    have hA : ¬(⟨n + 1, h⟩ : Fin cfg0.N).val % 8 = 0 := by dsimp only; omega
    have ih := carried_eq c n (Nat.lt_of_succ_lt h)
    by_cases hC : (⟨n + 1, h⟩ : Fin cfg0.N).val % 8 = 7
    · rw [outsAt0_C m c ⟨n + 1, h⟩ hA hC]
      refine Prod.ext ?_ ?_
      · dsimp only
        rw [last_load]
        exact congrArg (fun p : Vec F S4x8 .f32 × Vec F S1x1 .f32 => loadStep _ _ _ _ _ p.1) ih
      · dsimp only
        rw [last_ent]
        exact congrArg (fun p : Vec F S4x8 .f32 × Vec F S1x1 .f32 => entStep _ _ _ _ p.2) ih
    · rw [outsAt0_B m c ⟨n + 1, h⟩ hA hC]
      refine Prod.ext ?_ ?_
      · dsimp only
        rw [mid_load]
        exact congrArg (fun p : Vec F S4x8 .f32 × Vec F S1x1 .f32 => loadStep _ _ _ _ _ p.1) ih
      · dsimp only
        rw [mid_ent]
        exact congrArg (fun p : Vec F S4x8 .f32 × Vec F S1x1 .f32 => entStep _ _ _ _ p.2) ih

/-- The last grid point. -/
abbrev lastPt : Fin cfg0.N := ⟨7, lt_of_lt_of_eq (by decide) N_0.symm⟩

/-- The result block of the positions after the last point. -/
theorem picks_last (c : Dev nD) : (outsAt0 m c 7 lastPt.isLt).1 = picks (loads m c 7 lastPt.isLt) := by
  have e := outsAt0_C m c lastPt (by decide) (by decide)
  have ih := carried_eq m c 6 (Nat.lt_of_succ_lt lastPt.isLt)
  refine (congrArg (fun o => o.1) e).trans ?_
  dsimp only
  rw [last_picks, loads_succ m c 6 lastPt.isLt, show (outsAt0 m c (lastPt.val - 1) _).2.2 = _ from ih]

/-- The result block of the loss after the last point. -/
theorem loss_last (c : Dev nD) : (outsAt0 m c 7 lastPt.isLt).2.1 = k0_pay3 (ents m c 7 lastPt.isLt) := by
  have e := outsAt0_C m c lastPt (by decide) (by decide)
  have ih := carried_eq m c 6 (Nat.lt_of_succ_lt lastPt.isLt)
  refine (congrArg (fun o => o.2.1) e).trans ?_
  dsimp only
  rw [last_loss, ents_succ m c 6 lastPt.isLt, show (outsAt0 m c (lastPt.val - 1) _).2.2 = _ from ih]

/-- The positions' array after the kernel. -/
abbrev picksArr (c : Dev nD) : Buf (Elt F) ((c : Thread nD τ).loc main_v5_0) := picks (loads m c 7 lastPt.isLt)

/-- The loss's array after the kernel. -/
abbrev lossArr (c : Dev nD) : Buf (Elt F) ((c : Thread nD τ).loc main_v5_1) := k0_pay3 (ents m c 7 lastPt.isLt)

/-- What a flushing point writes back to the positions' array is that array: only the last point flushes. -/
theorem flushed_picks (c : Dev nD) (t : Fin cfg0.N) (hf : (cfg0.win 4).flush t = true) :
    (dats m 0 c).flushed 4 t = ((cfg0.win 4).blk t).view.read (Elt F) (picksArr m c) := by
  have hN : cfg0.N = 8 := N_0
  have h7 : t.val = 7 := by have := (flush0_4 t).mp hf; have := t.isLt; omega
  obtain rfl : t = lastPt := Fin.ext h7
  show (cfg0.win 4).cut (grid0.coords lastPt) ((dats m 0 c).after 4 lastPt) = _
  rw [after0_4, picks_last]
  have hz : (fun a => win0_4.index lastPt a * main_v5_0.ty.shape.size a) = fun _ => 0 := funext fun a => by fin_cases a <;> decide +kernel
  exact (Memref.read_access_unit_zero (Elt F) main_v5_0 hz (fun a => by rw [congrFun hz a]; simp) (picksArr m c)).symm

/-- What a flushing point writes back to the loss's array is that array. -/
theorem flushed_loss (c : Dev nD) (t : Fin cfg0.N) (hf : (cfg0.win 5).flush t = true) :
    (dats m 0 c).flushed 5 t = ((cfg0.win 5).blk t).view.read (Elt F) (lossArr m c) := by
  have hN : cfg0.N = 8 := N_0
  have h7 : t.val = 7 := by have := (flush0_5 t).mp hf; have := t.isLt; omega
  obtain rfl : t = lastPt := Fin.ext h7
  show (cfg0.win 5).cut (grid0.coords lastPt) ((dats m 0 c).after 5 lastPt) = _
  rw [after0_5, loss_last]
  have hz : (fun a => win0_5.index lastPt a * main_v5_1.ty.shape.size a) = fun _ => 0 := funext fun a => by fin_cases a <;> decide +kernel
  exact (Memref.read_access_unit_zero (Elt F) main_v5_1 hz (fun a => by rw [congrFun hz a]; simp) (lossArr m c)).symm

/-- The positions' array ends at the positions picked from the final loads. -/
theorem final_picks (c : Dev nD) : (dats m 0 c).arrAt 4 cfg0.N = picksArr m c :=
  (dats m 0 c).arrAt_eq_of_cover 4 (picksArr m c) (flushed_picks m c) fun i =>
    ⟨lastPt, (flush0_4 lastPt).mpr rfl, by
      show i ∈ ((View.whole main_v5_0).slice (win0_4.rect lastPt)).set
      rw [View.set_slice_whole, Rect.mem_set_unit]
      intro a
      have h0 : (i 0 : Nat) < 4 := (i 0).isLt
      have h1 : (i 1 : Nat) < 8 := (i 1).isLt
      match a with
      | ⟨0, _⟩ => show win0_4.index lastPt 0 * win0_4.size 0 ≤ (i 0 : Nat) ∧ (i 0 : Nat) < win0_4.index lastPt 0 * win0_4.size 0 + win0_4.xsize (grid0.coords lastPt) 0
                  rw [show win0_4.index lastPt 0 * win0_4.size 0 = 0 from by decide +kernel, show win0_4.xsize (grid0.coords lastPt) 0 = 4 from by decide +kernel]; omega
      | ⟨1, _⟩ => show win0_4.index lastPt 1 * win0_4.size 1 ≤ (i 1 : Nat) ∧ (i 1 : Nat) < win0_4.index lastPt 1 * win0_4.size 1 + win0_4.xsize (grid0.coords lastPt) 1
                  rw [show win0_4.index lastPt 1 * win0_4.size 1 = 0 from by decide +kernel, show win0_4.xsize (grid0.coords lastPt) 1 = 8 from by decide +kernel]; omega⟩

/-- The loss's array ends at the loss of the final sum. -/
theorem final_loss (c : Dev nD) : (dats m 0 c).arrAt 5 cfg0.N = lossArr m c :=
  (dats m 0 c).arrAt_eq_of_cover 5 (lossArr m c) (flushed_loss m c) fun i =>
    ⟨lastPt, (flush0_5 lastPt).mpr rfl, by
      show i ∈ ((View.whole main_v5_1).slice (win0_5.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_5.index lastPt 0 * win0_5.size 0 ≤ (i 0 : Nat) ∧ (i 0 : Nat) < win0_5.index lastPt 0 * win0_5.size 0 + win0_5.xsize (grid0.coords lastPt) 0
                  rw [show win0_5.index lastPt 0 * win0_5.size 0 = 0 from by decide +kernel, show win0_5.xsize (grid0.coords lastPt) 0 = 1 from by decide +kernel]; omega
      | ⟨1, _⟩ => show win0_5.index lastPt 1 * win0_5.size 1 ≤ (i 1 : Nat) ∧ (i 1 : Nat) < win0_5.index lastPt 1 * win0_5.size 1 + win0_5.xsize (grid0.coords lastPt) 1
                  rw [show win0_5.index lastPt 1 * win0_5.size 1 = 0 from by decide +kernel, show win0_5.xsize (grid0.coords lastPt) 1 = 1 from by decide +kernel]; omega⟩

/-- The mask: ones, whatever the arguments. -/
abbrev maskArr : Vec F S4x4096x8 .f32 := broadcastInDim S4x4096x8 ![] bcast_S_S4x4096x8 (constant (F := F) S_ .f32 0x3F800000#32)

/-- The loss as a scalar. -/
abbrev lossScalar (c : Dev nD) : Vec F S_ .f32 := shapeCast S_ (k0_pay3 (ents m c 7 lastPt.isLt)) shapeCasts_S1x1_S_

/-- The host operations after the kernel leave the mask's buffer at ones. -/
theorem tail_mask (c : Dev nD) :
    Pipeline.afterTail₀ cfgs (dats m) 0 (V0 m) [hostOps1] c main_v6 = (maskArr : Buf (Elt F) ((c : Thread nD τ).loc main_v6)) := by
  unfold Pipeline.afterTail₀
  simp only [hostOps1, List.flatten_cons, List.flatten_nil, List.append_nil]
  after_reads_simp

/-- The host operations after the kernel leave the loss's one entry in the scalar's buffer. -/
theorem tail_loss (c : Dev nD) :
    Pipeline.afterTail₀ cfgs (dats m) 0 (V0 m) [hostOps1] c main_v7 = (lossScalar m c : Buf (Elt F) ((c : Thread nD τ).loc main_v7)) := by
  unfold Pipeline.afterTail₀
  simp only [hostOps1, List.flatten_cons, List.flatten_nil, List.append_nil]
  after_reads_simp
  have e := (Pipeline.withArrays_arr spec0 (by decide) c (V0 m c) (fun w => (dats m 0 c).arrAt w cfg0.N) 5).trans (final_loss m c)
  funext i
  exact congrArg (fun v : Vec F S1x1 .f32 => shapeCast S_ v shapeCasts_S1x1_S_ i) e

/-- The kernel's run: the three result buffers, and the arguments as they were. -/
theorem kernel_run : θ_run defs (onTc (τ := τ) (main (F := F))) ⟨m, fun _ => 0, ρ⟩ fun r => ∀ c : Dev nD,
      r.2.mem ((c : Thread nD τ).loc main_v6) = (maskArr : Buf (Elt F) ((c : Thread nD τ).loc main_v6))
      ∧ r.2.mem ((c : Thread nD τ).loc main_v5_0) = picksArr m c
      ∧ r.2.mem ((c : Thread nD τ).loc main_v7) = (lossScalar m c : Buf (Elt F) ((c : Thread nD τ).loc main_v7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v6 (Pipeline.mem_restRefs_of main_v6 (by decide) (by decide))).trans (tail_mask m c),
      ((h c).1 4).trans (final_picks m c),
      ((h c).2 main_v7 (Pipeline.mem_restRefs_of main_v7 (by decide) (by decide))).trans (tail_loss m c),
      ((h c).1 3).trans (((dats m 0 c).arrAt_in 3 rfl _).trans ((A_eq m c 3).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Router

end
-- ==== Proof.Order.lean ====
/-
  Two ways of listing the positions of a row from its greatest value down, equal values by position. One is the stable sort
  of the row. The other takes the greatest value's first position, puts −∞ in its place and starts again; it gives the
  sort's list as long as no value of the row is itself −∞.
-/
module

public import Idealize.ShloMosaic.PureOps.Ideal
public import Idealize.ShloMosaic.Lib.SortFacts
public import Idealize.ShloMosaic.Lib.Pointwise

@[expose] public section

noncomputable section

namespace Cert.Router

open Idealize.ShloMosaic

/-- `a` is listed before `b`: its value is greater, or the values are equal and its position is smaller. -/
def Ahead {n : ℕ} (g : Fin n → EReal) (a b : Fin n) : Prop := g b < g a ∨ (g a = g b ∧ a < b)

/-- Inserting a position smaller than all those listed keeps the list in order. -/
theorem ahead_insert {n : ℕ} (g : Fin n → EReal) (a : Fin n) (l : List (Fin n)) (hl : l.Pairwise (Ahead g))
    (ha : ∀ b ∈ l, a < b) : (insertBefore (fun k k' => decide (g k' < g k)) a l).Pairwise (Ahead g) := by
  induction l with
  | nil => exact List.pairwise_singleton _ _
  | cons b l ih =>
    rw [List.pairwise_cons] at hl
    unfold insertBefore
    split
    · rename_i hba
      have hba : g a < g b := of_decide_eq_true hba
      refine List.pairwise_cons.mpr ⟨fun c hc => ?_, ih hl.2 fun c hc => ha c (List.mem_cons_of_mem _ hc)⟩
      rcases List.mem_cons.mp ((perm_insertBefore _ a l).mem_iff.mp hc) with rfl | hc
      · exact Or.inl hba
      · exact hl.1 c hc
    · rename_i hba
      have hba : g b ≤ g a := not_lt.mp fun h => hba (decide_eq_true h)
      refine List.pairwise_cons.mpr ⟨fun c hc => ?_, List.pairwise_cons.mpr hl⟩
      have hc' := ha c hc
      have hcb : g c ≤ g b := by
        rcases List.mem_cons.mp hc with rfl | hc
        · exact le_refl _
        · rcases hl.1 c hc with h | h
          · exact h.le
          · exact h.1.ge
      rcases (hcb.trans hba).lt_or_eq with h | h
      · exact Or.inl h
      · exact Or.inr ⟨h.symm, hc'⟩

/-- The stable sort of an increasing list of positions lists them in order. -/
theorem ahead_sort {n : ℕ} (g : Fin n → EReal) (l : List (Fin n)) (hl : l.Pairwise (· < ·)) :
    (stableSort (fun k k' => decide (g k' < g k)) l).Pairwise (Ahead g) := by
  induction l with
  | nil => exact List.Pairwise.nil
  | cons a l ih =>
    rw [List.pairwise_cons] at hl
    unfold stableSort
    exact ahead_insert g a _ (ih hl.2) fun b hb => hl.1 b ((perm_stableSort _ l).mem_iff.mp hb)

/-- The sort's earlier entries are ahead of its later ones. -/
theorem ahead_sortedFrom {n : ℕ} (g : Fin n → EReal) (i j : Fin n) (hij : i < j) :
    Ahead g (sortedFrom (fun k k' => decide (g k' < g k)) i) (sortedFrom (fun k k' => decide (g k' < g k)) j) := by
  have h := List.pairwise_iff_get.mp (ahead_sort g (List.finRange n) (List.pairwise_lt_finRange n))
  unfold sortedFrom
  exact h _ _ hij

/-- The greatest value of a row. -/
def top (v : Fin 8 → EReal) : EReal := Finset.fold max (Ideal.ofBits FTy.f32 4286578688#32) v Finset.univ

/-- The smallest of the positions holding the greatest value, as a word. -/
def pick (v : Fin 8 → EReal) : BitVec 32 :=
  Finset.fold IntOp.minsi 2147483647#32 (fun x => if top v ≤ v x then BitVec.ofNat 32 x.val else 8#32) Finset.univ

/-- The row with −∞ at the position picked. -/
def strike (v : Fin 8 → EReal) (e : Fin 8) : EReal :=
  Scalar.select (IntOp.cmpi .eq (BitVec.ofNat 32 e.val) (pick v)) (Ideal.ofBits FTy.f32 4286578688#32) (v e)

/-- The row after `k` rounds. -/
def rest (v : Fin 8 → EReal) : ℕ → Fin 8 → EReal
  | 0 => v
  | k + 1 => strike (rest v k)

/-- The pattern of −∞ denotes −∞. -/
theorem negInf : Ideal.ofBits FTy.f32 4286578688#32 = ⊥ := by simp [Ideal.ofBits, Ideal.ieee]

/-- No value exceeds the greatest. -/
theorem le_top' (v : Fin 8 → EReal) (e : Fin 8) : v e ≤ top v := by
  unfold top
  rw [Finset.le_fold_max]
  exact Or.inr ⟨e, Finset.mem_univ e, le_refl _⟩

/-- The greatest value is at most whatever no value exceeds. -/
theorem top_le (v : Fin 8 → EReal) (M : EReal) (h : ∀ e, v e ≤ M) : top v ≤ M := by
  unfold top
  rw [Finset.fold_max_le, negInf]
  exact ⟨bot_le, fun e _ => h e⟩

/-- The signed minimum of a family of words is below each of them, and above whatever is below all. -/
theorem fold_minsi (f : Fin 8 → BitVec 32) (s : Finset (Fin 8)) (b : BitVec 32) :
    ((∀ x ∈ s, (Finset.fold IntOp.minsi b f s).toInt ≤ (f x).toInt) ∧
      ∀ k : BitVec 32, k.toInt ≤ b.toInt → (∀ x ∈ s, k.toInt ≤ (f x).toInt) → k.toInt ≤ (Finset.fold IntOp.minsi b f s).toInt) := by
  induction s using Finset.induction_on with
  | empty => exact ⟨fun x hx => absurd hx (Finset.notMem_empty x), fun k hk _ => hk⟩
  | insert a s ha ih =>
    rw [Finset.fold_insert ha]
    have hm : ∀ p q : BitVec 32, (IntOp.minsi p q).toInt = min p.toInt q.toInt := fun p q => by
      unfold IntOp.minsi
      split <;> rename_i h <;> simp only [BitVec.slt, BitVec.sle, decide_eq_true_eq] at h <;> omega
    rw [hm]
    refine ⟨fun x hx => ?_, fun k hk h => ?_⟩
    · rcases Finset.mem_insert.mp hx with rfl | hx
      · exact min_le_left _ _
      · exact (min_le_right _ _).trans (ih.1 x hx)
    · exact le_min (h a (Finset.mem_insert_self a s)) (ih.2 k hk fun x hx => h x (Finset.mem_insert_of_mem hx))

/-- The position picked, when it is known to be the first of those holding the greatest value. -/
theorem pick_eq (v : Fin 8 → EReal) (k : Fin 8) (hk : top v ≤ v k) (hmin : ∀ x, top v ≤ v x → k ≤ x) :
    pick v = BitVec.ofNat 32 k.val := by
  have hpos : ∀ x : Fin 8, (BitVec.ofNat 32 x.val).toInt = x.val := by decide
  have h := fold_minsi (fun x => if top v ≤ v x then BitVec.ofNat 32 x.val else 8#32) Finset.univ 2147483647#32
  refine BitVec.eq_of_toInt_eq (le_antisymm ?_ ?_)
  · have h1 := h.1 k (Finset.mem_univ k)
    simp only [if_pos hk] at h1
    exact h1
  · have h8 : (8#32).toInt = 8 := by decide
    have hM : (2147483647#32).toInt = 2147483647 := by decide
    refine h.2 _ (by rw [hpos, hM]; omega) fun x _ => ?_
    split
    · rename_i hx
      rw [hpos, hpos]
      have := hmin x hx
      rw [Fin.le_def] at this
      exact_mod_cast this
    · rw [hpos, h8]; omega

/-- What the rounds leave and pick, from any listing `σ` of the positions in order. -/
theorem rounds (f : Fin 8 → EReal) (hf : ∀ e, f e ≠ ⊥) (σ : Fin 8 → Fin 8) (hinj : Function.Injective σ)
    (hsurj : Function.Surjective σ) (hσ : ∀ i j, i < j → Ahead f (σ i) (σ j)) :
    ∀ k : ℕ, k ≤ 8 → (∀ e, rest f k e = if ∃ i : Fin 8, i.val < k ∧ σ i = e then ⊥ else f e) ∧
      ∀ h : k < 8, pick (rest f k) = BitVec.ofNat 32 (σ ⟨k, h⟩).val := by
  have step : ∀ k : ℕ, (∀ e, rest f k e = if ∃ i : Fin 8, i.val < k ∧ σ i = e then ⊥ else f e) →
      ∀ h : k < 8, pick (rest f k) = BitVec.ofNat 32 (σ ⟨k, h⟩).val := by
    intro k hr h
    have hin : ∀ j : Fin 8, k ≤ j.val → rest f k (σ j) = f (σ j) := fun j hj => by
      rw [hr, if_neg]
      rintro ⟨i, hi, he⟩
      have := hinj he
      subst this
      omega
    have hout : ∀ j : Fin 8, j.val < k → rest f k (σ j) = ⊥ := fun j hj => by
      rw [hr, if_pos ⟨j, hj, rfl⟩]
    have hle : ∀ j : Fin 8, rest f k (σ j) ≤ f (σ ⟨k, h⟩) := fun j => by
      rcases Nat.lt_or_ge j.val k with hj | hj
      · rw [hout j hj]; exact bot_le
      · rw [hin j hj]
        rcases hj.lt_or_eq with hj | hj
        · rcases hσ ⟨k, h⟩ j hj with h' | h'
          · exact h'.le
          · exact h'.1.ge
        · have : (⟨k, h⟩ : Fin 8) = j := Fin.ext hj
          rw [this]
    have htop : top (rest f k) = f (σ ⟨k, h⟩) := by
      refine le_antisymm (top_le _ _ fun e => ?_) ?_
      · obtain ⟨j, rfl⟩ := hsurj e; exact hle j
      · rw [← hin ⟨k, h⟩ (le_refl k)]; exact le_top' _ _
    refine pick_eq _ _ (by rw [htop, hin _ (le_refl k)]) fun x hx => ?_
    obtain ⟨j, rfl⟩ := hsurj x
    rw [htop] at hx
    rcases Nat.lt_or_ge j.val k with hj | hj
    · rw [hout j hj, le_bot_iff] at hx; exact absurd hx (hf _)
    · rw [hin j hj] at hx
      rcases hj.lt_or_eq with hj | hj
      · rcases hσ ⟨k, h⟩ j hj with h' | h'
        · exact absurd hx (not_le.mpr h')
        · exact h'.2.le
      · have : (⟨k, h⟩ : Fin 8) = j := Fin.ext hj
        rw [this]
  intro k
  induction k with
  | zero =>
    intro _
    have h0 : ∀ e, rest f 0 e = if ∃ i : Fin 8, i.val < 0 ∧ σ i = e then ⊥ else f e := fun e => by
      rw [if_neg (by rintro ⟨i, hi, _⟩; omega)]; rfl
    exact ⟨h0, step 0 h0⟩
  | succ k ih =>
    intro hk
    obtain ⟨hr, hp⟩ := ih (by omega)
    have hk8 : k < 8 := by omega
    have hp := hp hk8
    have h1 : ∀ e, rest f (k + 1) e = if ∃ i : Fin 8, i.val < k + 1 ∧ σ i = e then ⊥ else f e := fun e => by
      show strike (rest f k) e = _
      unfold strike
      rw [hp, negInf]
      have hw : ∀ a b : Fin 8, IntOp.cmpi .eq (BitVec.ofNat 32 a.val) (BitVec.ofNat 32 b.val) = if a = b then 1#1 else 0#1 := by
        decide
      rw [hw]
      by_cases he : e = σ ⟨k, hk8⟩
      · rw [if_pos he, if_pos ⟨⟨k, hk8⟩, Nat.lt_succ_self k, he.symm⟩]
        rfl
      · rw [if_neg he]
        show rest f k e = _
        rw [hr]
        refine if_congr ⟨?_, ?_⟩ rfl rfl
        · rintro ⟨i, hi, h⟩; exact ⟨i, by omega, h⟩
        · rintro ⟨i, hi, h⟩
          refine ⟨i, ?_, h⟩
          rcases Nat.lt_or_ge i.val k with h' | h'
          · exact h'
          · exact absurd (h.symm.trans (congrArg σ (Fin.ext (Nat.le_antisymm (Nat.lt_succ_iff.mp hi) h')))) he
    exact ⟨h1, step _ h1⟩

/-- The `k`-th pick is the sort's `k`-th position. -/
theorem pick_rest (f : Fin 8 → EReal) (hf : ∀ e, f e ≠ ⊥) (k : Fin 8) :
    pick (rest f k.val) = BitVec.ofNat 32 (sortedFrom (fun a b => decide (f b < f a)) k).val :=
  (rounds f hf _ (sortedFrom_injective _) (sortedFrom_surjective _) (ahead_sortedFrom f) k.val k.isLt.le).2 k.isLt

end Cert.Router

end
-- ==== Proof.Spec.lean ====
/-
  What both programs compute, as plain functions of the four arguments' entries: a token's logits, its probabilities, the
  probabilities added up over a batch's tokens, and the sum of `p log (p + ε)` over everything. And what finite arguments
  give: every logit is a real number and every probability a positive one.
-/
module

public import proofs.«01_k».proof.Proof.Order

@[expose] public section

noncomputable section

namespace Cert.Router

open Idealize.ShloMosaic

variable (X : Fin 4 → Fin 4096 → Fin 2048 → EReal) (W : Fin 2048 → Fin 2048 → EReal) (Q : Fin 2048 → EReal)
  (K : Fin 8 → Fin 2048 → EReal)

/-- The query's entry `o` of token `s` of batch `b`. -/
def query (b : Fin 4) (s : Fin 4096) (o : Fin 2048) : EReal := (∑ k, X b s k * W o k) + Q o

/-- The token's scaled score against expert `e`. -/
def logit (b : Fin 4) (s : Fin 4096) (e : Fin 8) : EReal :=
  (∑ o, query X W Q b s o * K e o) * Ideal.ofBits FTy.f32 1018496243#32

/-- The softmax of a row of eight, the greatest entry subtracted. -/
def soft (l : Fin 8 → EReal) (e : Fin 8) : EReal :=
  Ideal.div (Ideal.exp (l e - top l)) (∑ j, Ideal.exp (l j - top l))

/-- The token's probability of expert `e`. -/
def prob (b : Fin 4) (s : Fin 4096) (e : Fin 8) : EReal := soft (logit X W Q K b s) e

/-- The probabilities of expert `e` added up over the tokens of batch `b`. -/
def load (b : Fin 4) (e : Fin 8) : EReal := ∑ s, prob X W Q K b s e

/-- `p log (p + ε)`. -/
def plogp (p : EReal) : EReal := p * Ideal.log (p + Ideal.ofBits FTy.f32 814313567#32)

/-- The sum of `p log (p + ε)` over all batches, tokens and experts. -/
def total : EReal := ∑ b, ∑ s, ∑ e, plogp (prob X W Q K b s e)

/-- `v` is a real number. -/
def IsReal (v : EReal) : Prop := ∃ r : ℝ, v = (r : EReal)

/-- `v` is a positive real number. -/
def IsPos (v : EReal) : Prop := ∃ r : ℝ, 0 < r ∧ v = (r : EReal)

/-- A positive real is a real. -/
theorem IsPos.isReal {v : EReal} (h : IsPos v) : IsReal v := let ⟨r, _, e⟩ := h; ⟨r, e⟩

/-- The sum of two reals is real. -/
theorem IsReal.add {v w : EReal} (hv : IsReal v) (hw : IsReal w) : IsReal (v + w) := by
  obtain ⟨r, rfl⟩ := hv; obtain ⟨s, rfl⟩ := hw
  exact ⟨r + s, (EReal.coe_add r s).symm⟩

/-- The product of two reals is real. -/
theorem IsReal.mul {v w : EReal} (hv : IsReal v) (hw : IsReal w) : IsReal (v * w) := by
  obtain ⟨r, rfl⟩ := hv; obtain ⟨s, rfl⟩ := hw
  exact ⟨r * s, (EReal.coe_mul r s).symm⟩

/-- The difference of two reals is real. -/
theorem IsReal.sub {v w : EReal} (hv : IsReal v) (hw : IsReal w) : IsReal (v - w) := by
  obtain ⟨r, rfl⟩ := hv; obtain ⟨s, rfl⟩ := hw
  exact ⟨r - s, (EReal.coe_sub r s).symm⟩

/-- A finite sum of reals is real. -/
theorem IsReal.sum {ι : Type} [Fintype ι] (f : ι → EReal) (h : ∀ i, IsReal (f i)) : IsReal (∑ i, f i) :=
  Finset.sum_induction f IsReal (fun _ _ => IsReal.add) ⟨0, rfl⟩ fun i _ => h i

/-- A finite sum of positive reals over something is a positive real. -/
theorem IsPos.sum {ι : Type} [Fintype ι] [Nonempty ι] (f : ι → EReal) (h : ∀ i, IsPos (f i)) : IsPos (∑ i, f i) := by
  refine Finset.sum_induction_nonempty f IsPos (fun a b ha hb => ?_) Finset.univ_nonempty fun i _ => h i
  obtain ⟨r, hr, rfl⟩ := ha; obtain ⟨s, hs, rfl⟩ := hb
  exact ⟨r + s, add_pos hr hs, (EReal.coe_add r s).symm⟩

/-- A value below +∞ in size is real. -/
theorem isReal_of_abs {v : EReal} (h : max v (-v) < ⊤) : IsReal v := by
  induction v using EReal.rec with
  | bot => simp at h
  | top => simp at h
  | coe r => exact ⟨r, rfl⟩

/-- The greatest of eight entries is one of them. -/
theorem top_mem (l : Fin 8 → EReal) : ∃ e, top l = l e := by
  obtain ⟨e, -, he⟩ := Finset.exists_max_image Finset.univ l Finset.univ_nonempty
  exact ⟨e, le_antisymm (top_le l _ fun j => he j (Finset.mem_univ j)) (le_top' l e)⟩

/-- The exponential of a real is a positive real. -/
theorem exp_pos {v : EReal} (h : IsReal v) : IsPos (Ideal.exp v) := by
  obtain ⟨r, rfl⟩ := h
  exact ⟨Real.exp r, Real.exp_pos r, rfl⟩

/-- A softmax of reals is a positive real. -/
theorem soft_pos (l : Fin 8 → EReal) (h : ∀ e, IsReal (l e)) (e : Fin 8) : IsPos (soft l e) := by
  have ht : IsReal (top l) := by obtain ⟨j, hj⟩ := top_mem l; rw [hj]; exact h j
  obtain ⟨s, hs, es⟩ := IsPos.sum (fun j => Ideal.exp (l j - top l)) fun j => exp_pos ((h j).sub ht)
  obtain ⟨r, hr, er⟩ := exp_pos ((h e).sub ht)
  unfold soft
  rw [es, er, Ideal.div_coe hs.ne', ← EReal.coe_mul]
  exact ⟨r * (1 / s), by positivity, rfl⟩

/-- The scale is a real number. -/
theorem scale_real : IsReal (Ideal.ofBits FTy.f32 1018496243#32) := by
  unfold IsReal
  simp only [Ideal.ofBits, Ideal.ieee]
  split_ifs with h1
  · exact absurd h1 (by decide)
  · exact absurd h1 (by decide)
  · exact absurd h1 (by decide)
  all_goals exact ⟨_, rfl⟩

section Finite

variable {X W Q K} (hX : ∀ b s k, IsReal (X b s k)) (hW : ∀ o k, IsReal (W o k)) (hQ : ∀ o, IsReal (Q o)) (hK : ∀ e o, IsReal (K e o))

include hX hW hQ hK

/-- Finite arguments give real logits. -/
theorem logit_real (b : Fin 4) (s : Fin 4096) (e : Fin 8) : IsReal (logit X W Q K b s e) :=
  (IsReal.sum _ fun o => ((IsReal.sum _ fun k => (hX b s k).mul (hW o k)).add (hQ o)).mul (hK e o)).mul scale_real

/-- Finite arguments give positive real probabilities. -/
theorem prob_pos (b : Fin 4) (s : Fin 4096) (e : Fin 8) : IsPos (prob X W Q K b s e) :=
  soft_pos _ (fun j => logit_real hX hW hQ hK b s j) e

/-- Finite arguments give positive real loads. -/
theorem load_pos (b : Fin 4) (e : Fin 8) : IsPos (load X W Q K b e) :=
  IsPos.sum _ fun s => prob_pos hX hW hQ hK b s e

end Finite

end Cert.Router

end
-- ==== Proof.Block.lean ====
/-
  The blocks a grid point reads, as the arguments' entries: the two weight matrices are the transposed arguments, the bias
  is the argument laid as a row, and the tokens of point `t` are those of batch `t / 2`, from token `2048 (t mod 2)` on.
-/
module

public import proofs.«01_k».proof.Proof.KernelRun
public import proofs.«01_k».proof.Proof.Spec

@[expose] public section

noncomputable section

namespace Cert.Router

open Cert.KernelIdeal Cert.KernelIdeal.Gen Idealize.ShloMosaic Idealize.ShloMosaic.TcCoe Idealize.SL.Sem

variable (m : (ℓ : Loc nD τ sig) → Buf (Elt Ideal) ℓ) (c : Dev nD)

/-- The tokens' entries. -/
def argX (b : Fin 4) (s : Fin 4096) (k : Fin 2048) : EReal := (m ((c : Thread nD τ).loc main_arg0) : FVec Ideal S4x4096x2048 .f32) (ix3 b s k)

/-- The query weights' entries. -/
def argW (o k : Fin 2048) : EReal := (m ((c : Thread nD τ).loc main_arg1) : FVec Ideal S2048x2048 .f32) (ix2 o k)

/-- The query bias's entries. -/
def argQ (o : Fin 2048) : EReal := (m ((c : Thread nD τ).loc main_arg2) : FVec Ideal S2048 .f32) (ix1 o)

/-- The experts' keys' entries. -/
def argK (e : Fin 8) (o : Fin 2048) : EReal := (m ((c : Thread nD τ).loc main_arg3) : FVec Ideal S8x2048 .f32) (ix2 e o)

/-- What the host hands the kernel as the query weights. -/
theorem host_w : (V m c main_v1 : FVec Ideal S2048x2048 .bf16) =
    truncf (F := Ideal) .bf16 (transpose S2048x2048 [1, 0] (m ((c : Thread nD τ).loc main_arg1) : FVec Ideal S2048x2048 .f32) transposes_S2048x2048_S2048x2048_1_0) bitsLt_bf16_f32 := by
  unfold V V0
  simp only [hostOps0, List.flatten_cons, List.flatten_nil, List.append_nil]
  after_reads_simp

/-- What the host hands the kernel as the experts' keys. -/
theorem host_k : (V m c main_v3 : FVec Ideal S2048x8 .bf16) =
    truncf (F := Ideal) .bf16 (transpose S2048x8 [1, 0] (m ((c : Thread nD τ).loc main_arg3) : FVec Ideal S8x2048 .f32) transposes_S8x2048_S2048x8_1_0) bitsLt_bf16_f32 := by
  unfold V V0
  simp only [hostOps0, List.flatten_cons, List.flatten_nil, List.append_nil]
  after_reads_simp

/-- What the host hands the kernel as the bias. -/
theorem host_q : (V m c main_v4 : FVec Ideal S1x2048 .f32) =
    shapeCast S1x2048 (m ((c : Thread nD τ).loc main_arg2) : FVec Ideal S2048 .f32) shapeCasts_S2048_S1x2048 := by
  unfold V V0
  simp only [hostOps0, List.flatten_cons, List.flatten_nil, List.append_nil]
  after_reads_simp
  rfl

/-- The weights' block is the whole of the transposed argument at every point. -/
theorem blk_w (t : Fin cfg0.N) (k o : Fin 2048) : (iblk m c 0 t : FVec Ideal S2048x2048 .bf16) (ix2 k o) = argW m c o k := by
  have e : (iblk m c 0 t : FVec Ideal S2048x2048 .bf16) (ix2 k o) = (V m c main_v1 : FVec Ideal S2048x2048 .bf16) (ix2 k o) := by
    unfold iblk
    rw [View.read_apply]
    show V m c main_v1 _ = V m c main_v1 _
    congr 1
    funext a
    apply Fin.ext
    match a with
    | ⟨0, _⟩ => show 0 * 2048 + 1 * k.val = k.val; omega
    | ⟨1, _⟩ => show 0 * 2048 + 1 * o.val = o.val; omega
  rw [e, host_w]
  pointwise [argW]

/-- The keys' block is the whole of the transposed argument at every point. -/
theorem blk_k (t : Fin cfg0.N) (o : Fin 2048) (e : Fin 8) : (iblk m c 1 t : FVec Ideal S2048x8 .bf16) (ix2 o e) = argK m c e o := by
  have h : (iblk m c 1 t : FVec Ideal S2048x8 .bf16) (ix2 o e) = (V m c main_v3 : FVec Ideal S2048x8 .bf16) (ix2 o e) := by
    unfold iblk
    rw [View.read_apply]
    show V m c main_v3 _ = V m c main_v3 _
    congr 1
    funext a
    apply Fin.ext
    match a with
    | ⟨0, _⟩ => show 0 * 2048 + 1 * o.val = o.val; omega
    | ⟨1, _⟩ => show 0 * 8 + 1 * e.val = e.val; omega
  rw [h, host_k]
  pointwise [argK]

/-- The bias's block is the argument as a row at every point. -/
theorem blk_q (t : Fin cfg0.N) (o : Fin 2048) : (iblk m c 2 t : FVec Ideal S1x2048 .f32) (ix2 0 o) = argQ m c o := by
  have h : (iblk m c 2 t : FVec Ideal S1x2048 .f32) (ix2 0 o) = (V m c main_v4 : FVec Ideal S1x2048 .f32) (ix2 0 o) := by
    unfold iblk
    rw [View.read_apply]
    show V m c main_v4 _ = V m c main_v4 _
    congr 1
    funext a
    apply Fin.ext
    match a with
    | ⟨0, _⟩ => show 0 * 1 + 1 * 0 = 0; omega
    | ⟨1, _⟩ => show 0 * 2048 + 1 * o.val = o.val; omega
  rw [h, host_q]
  unfold argQ
  generalize (m ((c : Thread nD τ).loc main_arg2) : FVec Ideal S2048 .f32) = v
  refine (shapeCast_addUnit_apply ![2048] v shapeCasts_S2048_S1x2048 (ix2 0 o)).trans (congrArg v (funext fun a => ?_))
  match a with
  | ⟨0, _⟩ => rfl

/-- The tokens' block of point `t` starts at batch `t / 2`, token `2048 (t mod 2)`. -/
theorem blk_x (t : Fin cfg0.N) (b : Fin 4) (h : Fin 2) (ht : t.val = 2 * b.val + h.val) (s k : Fin 2048) :
    (iblk m c 3 t : FVec Ideal S1x2048x2048 .f32) (ix3 0 s k) = argX m c b ⟨h.val * 2048 + s.val, by omega⟩ k := by
  have hN : cfg0.N = 8 := N_0
  have hi : ∀ (b : Fin 4) (h : Fin 2) (l : 2 * b.val + h.val < cfg0.N), win0_3.index ⟨2 * b.val + h.val, l⟩ 0 = b.val
      ∧ win0_3.index ⟨2 * b.val + h.val, l⟩ 1 = h.val ∧ win0_3.index ⟨2 * b.val + h.val, l⟩ 2 = 0 := by decide +kernel
  have l : 2 * b.val + h.val < cfg0.N := ht ▸ t.isLt
  obtain rfl : t = ⟨2 * b.val + h.val, l⟩ := Fin.ext ht
  obtain ⟨h0, h1, h2⟩ := hi b h l
  unfold iblk
  rw [View.read_apply]
  show V m c main_arg0 _ = _
  rw [V_main_arg0]
  unfold argX
  congr 1
  funext a
  apply Fin.ext
  match a with
  | ⟨0, _⟩ => show win0_3.index _ 0 * 1 + 1 * 0 = b.val; rw [h0]; omega
  | ⟨1, _⟩ => show win0_3.index _ 1 * 2048 + 1 * s.val = h.val * 2048 + s.val; rw [h1]; omega
  | ⟨2, _⟩ => show win0_3.index _ 2 * 2048 + 1 * k.val = k.val; rw [h2]; omega

end Cert.Router

end
-- ==== Proof.Point.lean ====
/-
  One grid point's tokens: the probabilities the body computes are the tokens', and what it adds to the two running sums
  is the sum over the point's 2048 tokens, its four chunks put back together.
-/
module

public import proofs.«01_k».proof.Proof.Block

@[expose] public section

noncomputable section

namespace Cert.Router

open Cert.KernelIdeal Cert.KernelIdeal.Gen Idealize.ShloMosaic Idealize.ShloMosaic.TcCoe Idealize.SL.Sem

/-- A sum over 2048 tokens is the sum of its four chunks' sums. -/
theorem sum_chunks (f : Fin 2048 → EReal) :
    (((∑ r : Fin 512, f ⟨0 + r.val, by omega⟩) + ∑ r : Fin 512, f ⟨512 + r.val, by omega⟩) + ∑ r : Fin 512, f ⟨1024 + r.val, by omega⟩)
      + ∑ r : Fin 512, f ⟨1536 + r.val, by omega⟩ = ∑ s, f s := by
  have h1 := Fin.sum_univ_add (a := 1536) (b := 512) f
  have h2 := Fin.sum_univ_add (a := 1024) (b := 512) fun i => f (Fin.castAdd 512 i)
  have h3 := Fin.sum_univ_add (a := 512) (b := 512) fun i => f (Fin.castAdd 512 (Fin.castAdd 512 i))
  refine Eq.trans ?_ (h1.trans (congrArg (· + _) (h2.trans (congrArg (· + _) h3)))).symm
  refine congrArg₂ (· + ·) (congrArg₂ (· + ·) (congrArg₂ (· + ·) ?_ rfl) rfl) rfl
  exact Finset.sum_congr rfl fun r _ => congrArg f (Fin.ext (Nat.zero_add _))

variable (x0 : Vec Ideal S2048x2048 .bf16) (x1 : Vec Ideal S2048x8 .bf16) (x2 : Vec Ideal S1x2048 .f32) (x : Vec Ideal S1x512x2048 .f32)
  (x3 : Vec Ideal S1x2048x2048 .f32)

/-- A block's scores at a token. -/
def blockRow (s : Fin 2048) (e : Fin 8) : EReal :=
  (∑ o, ((∑ k, x3 (ix3 0 s k) * x0 (ix2 k o)) + x2 (ix2 0 o)) * x1 (ix2 o e)) * Ideal.ofBits FTy.f32 1018496243#32

/-- A chunk's probabilities at a token: the softmax of the token's scores. -/
theorem chunk_soft (r : Fin 512) (e : Fin 8) : k0_pay22 x x0 x2 x1 (ix2 r e) =
    soft (fun e => (∑ o, ((∑ k, x (ix3 0 r k) * x0 (ix2 k o)) + x2 (ix2 0 o)) * x1 (ix2 o e)) * Ideal.ofBits FTy.f32 1018496243#32) e := by
  pointwise [k0_pay22, soft, top]

/-- The second chunk's probabilities are the first chunk's function of it. -/
theorem chunk_two : k0_pay26 x x0 x2 x1 = k0_pay22 x x0 x2 x1 := rfl

/-- The third chunk's probabilities are the first chunk's function of it. -/
theorem chunk_three : k0_pay29 x x0 x2 x1 = k0_pay22 x x0 x2 x1 := rfl

/-- The fourth chunk's probabilities are the first chunk's function of it. -/
theorem chunk_four : k0_pay32 x x0 x2 x1 = k0_pay22 x x0 x2 x1 := rfl

/-- The first chunk's probabilities added up. -/
theorem load_first (e : Fin 8) : k0_pay23 x x0 x2 x1 (ix2 0 e) = ∑ r, k0_pay22 x x0 x2 x1 (ix2 r e) := by
  pointwise [k0_pay23]

/-- The second chunk's probabilities added to the first's. -/
theorem load_second (v : FVec Ideal S1x8 .f32) (e : Fin 8) :
    k0_pay27 v x x0 x2 x1 (ix2 0 e) = v (ix2 0 e) + ∑ r, k0_pay22 x x0 x2 x1 (ix2 r e) := by
  pointwise [k0_pay27]
  rw [chunk_two]

/-- The third chunk's probabilities added to the earlier ones'. -/
theorem load_third (v : FVec Ideal S1x8 .f32) (e : Fin 8) :
    k0_pay30 v x x0 x2 x1 (ix2 0 e) = v (ix2 0 e) + ∑ r, k0_pay22 x x0 x2 x1 (ix2 r e) := by
  pointwise [k0_pay30]
  rw [chunk_three]

/-- The fourth chunk's probabilities added to the earlier ones'. -/
theorem load_fourth (v : FVec Ideal S1x8 .f32) (e : Fin 8) :
    k0_pay33 v x x0 x2 x1 (ix2 0 e) = v (ix2 0 e) + ∑ r, k0_pay22 x x0 x2 x1 (ix2 r e) := by
  pointwise [k0_pay33]
  rw [chunk_four]

/-- The first chunk's sum of `p log (p + ε)`. -/
theorem ent_first : k0_pay25 k0_pay21 (k0_pay22 x x0 x2 x1) k0_pay24 (ix2 0 0) = ∑ r, ∑ e, plogp (k0_pay22 x x0 x2 x1 (ix2 r e)) := by
  pointwise [k0_pay25, k0_pay21, k0_pay24, plogp]

/-- The second and third chunks' sums of `p log (p + ε)` added to the first's. -/
theorem ent_second (v : FVec Ideal S1x1 .f32) (y : Vec Ideal S1x512x2048 .f32) :
    k0_pay31 v (k0_pay28 x x0 x2 x1) y x0 x2 x1 (ix2 0 0)
      = (v (ix2 0 0) + ∑ r, ∑ e, plogp (k0_pay22 x x0 x2 x1 (ix2 r e))) + ∑ r, ∑ e, plogp (k0_pay22 y x0 x2 x1 (ix2 r e)) := by
  pointwise [k0_pay31, k0_pay28, plogp]
  rw [chunk_two, chunk_three]

/-- The fourth chunk's sum of `p log (p + ε)` added to the earlier ones'. -/
theorem ent_fourth (v : FVec Ideal S1x1 .f32) :
    k0_pay34 v x x0 x2 x1 (ix2 0 0) = v (ix2 0 0) + ∑ r, ∑ e, plogp (k0_pay22 x x0 x2 x1 (ix2 r e)) := by
  pointwise [k0_pay34, plogp]
  rw [chunk_four]

/-- A chunk's token is the block's, the chunk's offset further on. -/
theorem chunk_apply (o : ℕ) (h) (ho : o + 512 ≤ 2048) (r : Fin 512) (k : Fin 2048) :
    chunk x3 o h (ix3 0 r k) = x3 (ix3 0 ⟨o + r.val, by omega⟩ k) := by
  unfold chunk
  pointwise

/-- A chunk's probabilities are the softmax of the block's scores at the chunk's tokens. -/
theorem chunk_row (o : ℕ) (h) (ho : o + 512 ≤ 2048) (r : Fin 512) (e : Fin 8) :
    k0_pay22 (chunk x3 o h) x0 x2 x1 (ix2 r e) = soft (blockRow x0 x1 x2 x3 ⟨o + r.val, by omega⟩) e := by
  rw [chunk_soft]
  simp only [chunk_apply x3 o h ho]
  rfl

/-- A point's loads: the probabilities added up over its tokens. -/
theorem pointLoad_eq (e : Fin 8) : pointLoad x0 x1 x2 x3 (ix2 0 e) = ∑ s, soft (blockRow x0 x1 x2 x3 s) e := by
  unfold pointLoad
  rw [load_fourth, load_third, load_second, load_first, ← sum_chunks]
  simp only [chunk_row x0 x1 x2 x3 0 _ (by omega), chunk_row x0 x1 x2 x3 512 _ (by omega), chunk_row x0 x1 x2 x3 1024 _ (by omega),
    chunk_row x0 x1 x2 x3 1536 _ (by omega)]

/-- A point's sum of `p log (p + ε)` over its tokens and the experts. -/
theorem pointEnt_eq : pointEnt x0 x1 x2 x3 (ix2 0 0) = ∑ s, ∑ e, plogp (soft (blockRow x0 x1 x2 x3 s) e) := by
  unfold pointEnt
  rw [ent_fourth, ent_second, ent_first, ← sum_chunks]
  simp only [chunk_row x0 x1 x2 x3 0 _ (by omega), chunk_row x0 x1 x2 x3 512 _ (by omega), chunk_row x0 x1 x2 x3 1024 _ (by omega),
    chunk_row x0 x1 x2 x3 1536 _ (by omega)]

/-- A point adds its loads to its own batch's row, and nothing to the others. -/
theorem loadStep_eq (i : grid0.Coords) (s : Vec Ideal S4x8 .f32) (b : Fin 4) (e : Fin 8) :
    loadStep i x0 x1 x2 x3 s (ix2 b e) = s (ix2 b e) + if b.val = (i 0).val then ∑ t, soft (blockRow x0 x1 x2 x3 t) e else 0 := by
  rw [← pointLoad_eq]
  unfold loadStep
  generalize pointLoad x0 x1 x2 x3 = p
  have hw : ∀ a b : Fin 4, IntOp.cmpi .eq (BitVec.ofNat 32 a.val) (BitVec.ofNat 32 b.val) = if a.val = b.val then 1#1 else 0#1 := by decide
  pointwise [k0_pay1, k0_pay35]
  rw [hw b (i 0)]
  split <;> rfl

/-- A point adds its sum to the running one. -/
theorem entStep_eq (a : Vec Ideal S1x1 .f32) :
    entStep x0 x1 x2 x3 a (ix2 0 0) = a (ix2 0 0) + ∑ s, ∑ e, plogp (soft (blockRow x0 x1 x2 x3 s) e) := by
  rw [← pointEnt_eq]
  unfold entStep
  generalize pointEnt x0 x1 x2 x3 = p
  pointwise [k0_pay2]

variable (m : (ℓ : Loc nD τ sig) → Buf (Elt Ideal) ℓ) (c : Dev nD)

/-- The probabilities of the arguments at `c`. -/
abbrev probs (b : Fin 4) (s : Fin 4096) (e : Fin 8) : EReal := prob (argX m c) (argW m c) (argQ m c) (argK m c) b s e

/-- The scores of point `n`'s tokens are the arguments' logits. -/
theorem row_eq (n : ℕ) (h : n < cfg0.N) (h4 : n / 2 < 4) (s : Fin 2048) :
    blockRow (iblk m c 0 ⟨n, h⟩) (iblk m c 1 ⟨n, h⟩) (iblk m c 2 ⟨n, h⟩) (iblk m c 3 ⟨n, h⟩) s
      = logit (argX m c) (argW m c) (argQ m c) (argK m c) ⟨n / 2, h4⟩ ⟨n % 2 * 2048 + s.val, by omega⟩ := by
  funext e
  unfold blockRow logit query
  have hx := blk_x m c ⟨n, h⟩ ⟨n / 2, h4⟩ ⟨n % 2, by omega⟩ (by show n = 2 * (n / 2) + n % 2; omega) s
  simp only [blk_w m c, blk_k m c, blk_q m c, hx]

/-- What point `n` adds to the load of expert `e`. -/
def partLoad (n : ℕ) (e : Fin 8) : EReal :=
  if h : n / 2 < 4 then ∑ s : Fin 2048, probs m c ⟨n / 2, h⟩ ⟨n % 2 * 2048 + s.val, by omega⟩ e else 0

/-- What point `n` adds to the sum of `p log (p + ε)`. -/
def partEnt (n : ℕ) : EReal :=
  if h : n / 2 < 4 then ∑ s : Fin 2048, ∑ e, plogp (probs m c ⟨n / 2, h⟩ ⟨n % 2 * 2048 + s.val, by omega⟩ e) else 0

/-- The grid's first coordinate is the batch. -/
theorem coord_eq (n : ℕ) (h : n < cfg0.N) : (grid0.coords ⟨n, h⟩ 0).val = n / 2 := by
  have hN : cfg0.N = 8 := N_0
  have key : ∀ t : Fin cfg0.N, (grid0.coords t 0).val = t.val / 2 := by decide +kernel
  exact key ⟨n, h⟩

/-- The loads start at zero. -/
theorem start_load (b : Fin 4) (e : Fin 8) : k0_pay19 (F := Ideal) (ix2 b e) = (0 : EReal) := by
  pointwise [k0_pay19]

/-- The sum of `p log (p + ε)` starts at zero. -/
theorem start_ent : k0_pay20 (F := Ideal) (ix2 0 0) = (0 : EReal) := by
  pointwise [k0_pay20]

/-- The running loads after point `n`. -/
theorem loads_eq (b : Fin 4) (e : Fin 8) : ∀ (n : ℕ) (h : n < cfg0.N),
    loads m c n h (ix2 b e) = ∑ t ∈ Finset.range (n + 1), if b.val = t / 2 then partLoad m c t e else 0
  | 0, h => by
    unfold loads
    rw [loadStep_eq, coord_eq, Finset.sum_range_one]
    simp only [row_eq m c 0 h (by omega)]
    unfold partLoad
    rw [dif_pos (by omega : 0 / 2 < 4)]
    rw [start_load, zero_add]
    rfl
  | n + 1, h => by
    have hN : cfg0.N = 8 := N_0
    have h4 : (n + 1) / 2 < 4 := by omega
    rw [loads_succ, loadStep_eq, coord_eq, Finset.sum_range_succ, ← loads_eq b e n (Nat.lt_of_succ_lt h)]
    simp only [row_eq m c (n + 1) h h4]
    unfold partLoad
    rw [dif_pos h4]
    rfl

/-- The running sum of `p log (p + ε)` after point `n`. -/
theorem ents_eq : ∀ (n : ℕ) (h : n < cfg0.N), ents m c n h (ix2 0 0) = ∑ t ∈ Finset.range (n + 1), partEnt m c t
  | 0, h => by
    unfold ents
    rw [entStep_eq, Finset.sum_range_one]
    simp only [row_eq m c 0 h (by omega)]
    unfold partEnt
    rw [dif_pos (by omega : 0 / 2 < 4)]
    rw [start_ent, zero_add]
    rfl
  | n + 1, h => by
    have hN : cfg0.N = 8 := N_0
    have h4 : (n + 1) / 2 < 4 := by omega
    rw [ents_succ, entStep_eq, Finset.sum_range_succ, ← ents_eq n (Nat.lt_of_succ_lt h)]
    simp only [row_eq m c (n + 1) h h4]
    unfold partEnt
    rw [dif_pos h4]
    rfl

/-- A sum over 4096 tokens is the sum of its two halves' sums. -/
theorem sum_halves (f : Fin 4096 → EReal) :
    (∑ s : Fin 2048, f ⟨0 * 2048 + s.val, by omega⟩) + (∑ s : Fin 2048, f ⟨1 * 2048 + s.val, by omega⟩) = ∑ s, f s := by
  refine Eq.trans ?_ (Fin.sum_univ_add (a := 2048) (b := 2048) f).symm
  refine congrArg₂ (· + ·) (Finset.sum_congr rfl fun s _ => congrArg f (Fin.ext ?_)) (Finset.sum_congr rfl fun s _ => congrArg f (Fin.ext ?_))
  · show 0 * 2048 + s.val = s.val; omega
  · show 1 * 2048 + s.val = 2048 + s.val; omega

/-- The two points of a batch add its load. -/
theorem part_load (b : Fin 4) (e : Fin 8) :
    partLoad m c (2 * b.val) e + partLoad m c (2 * b.val + 1) e = load (argX m c) (argW m c) (argQ m c) (argK m c) b e := by
  unfold load
  rw [← sum_halves]
  unfold partLoad
  have h0 : 2 * b.val / 2 = b.val := by omega
  have h1 : (2 * b.val + 1) / 2 = b.val := by omega
  have h2 : 2 * b.val % 2 = 0 := by omega
  have h3 : (2 * b.val + 1) % 2 = 1 := by omega
  rw [dif_pos (by omega), dif_pos (by omega)]
  simp only [h0, h1, h2, h3]

/-- The two points of a batch add its sum of `p log (p + ε)`. -/
theorem part_ent (b : Fin 4) :
    partEnt m c (2 * b.val) + partEnt m c (2 * b.val + 1) = ∑ s, ∑ e, plogp (probs m c b s e) := by
  rw [← sum_halves fun s => ∑ e, plogp (probs m c b s e)]
  unfold partEnt
  have h0 : 2 * b.val / 2 = b.val := by omega
  have h1 : (2 * b.val + 1) / 2 = b.val := by omega
  have h2 : 2 * b.val % 2 = 0 := by omega
  have h3 : (2 * b.val + 1) % 2 = 1 := by omega
  rw [dif_pos (by omega), dif_pos (by omega)]
  simp only [h0, h1, h2, h3]

/-- The loads after the last point are the batches' loads. -/
theorem loads_last (b : Fin 4) (e : Fin 8) :
    loads m c 7 lastPt.isLt (ix2 b e) = load (argX m c) (argW m c) (argQ m c) (argK m c) b e := by
  rw [loads_eq, ← part_load]
  generalize partLoad m c = f
  simp only [Finset.sum_range_succ, Finset.sum_range_zero]
  fin_cases b <;> simp

/-- The sum after the last point is the sum over everything. -/
theorem ents_last : ents m c 7 lastPt.isLt (ix2 0 0) = total (argX m c) (argW m c) (argQ m c) (argK m c) := by
  unfold total
  rw [ents_eq]
  simp only [← part_ent m c]
  generalize partEnt m c = f
  simp only [Finset.sum_range_succ, Finset.sum_range_zero, Fin.sum_univ_four]
  simp [add_assoc]

end Cert.Router

end
-- ==== Proof.Rounds.lean ====
/-
  The eight rounds on a block of loads, row by row: round `k` writes into column `k` the first position of the row's
  greatest value, and puts −∞ in that value's place.
-/
module

public import proofs.«01_k».proof.Proof.Point

@[expose] public section

noncomputable section

namespace Cert.Router

open Cert.KernelIdeal Cert.KernelIdeal.Gen Idealize.ShloMosaic Idealize.ShloMosaic.TcCoe Idealize.SL.Sem

section Any

variable {F : FTy → Type} [FloatOps F] [Named F]

/-- The loads after `k` rounds. -/
def struck (v : Vec F S4x8 .f32) : ℕ → FVec F S4x8 .f32
  | 0 => v
  | k + 1 => k0_pay5 (struck v k)

/-- The positions `p` put into column `k`. -/
def put (k : BitVec 32) (p : IVec S4x1 32) (a : IVec S4x8 32) : IVec S4x8 32 :=
  select (cmpi .eq (iota .tc S4x8 32 [1] iota_S4x8_d1_w32) (broadcast S4x8 k))
    (broadcastTo S4x8 (shapeCast S4x1 p shapeCasts_S4x1_S4x1) broadcasts_S4x1_S4x8) a

/-- The body's positions are eight rounds, each putting its own column. -/
theorem picks_rounds (v : Vec F S4x8 .f32) : picks v =
    put 7#32 (k0_pay4 (struck v 7)) (put 6#32 (k0_pay4 (struck v 6)) (put 5#32 (k0_pay4 (struck v 5)) (put 4#32 (k0_pay4 (struck v 4))
      (put 3#32 (k0_pay4 (struck v 3)) (put 2#32 (k0_pay4 (struck v 2)) (put 1#32 (k0_pay4 (struck v 1)) (put 0#32 (k0_pay4 (struck v 0))
        (broadcast S4x8 0#32)))))))) := rfl

end Any

/-- A round's position in a row. -/
theorem round_pick (v : Vec Ideal S4x8 .f32) (b : Fin 4) : k0_pay4 v (ix2 b 0) = pick fun e => v (ix2 b e) := by
  pointwise [k0_pay4, pick, top]

/-- A round's row with the value taken replaced. -/
theorem round_strike (v : Vec Ideal S4x8 .f32) (b : Fin 4) (e : Fin 8) : k0_pay5 v (ix2 b e) = strike (fun e => v (ix2 b e)) e := by
  unfold strike
  rw [← round_pick]
  pointwise [k0_pay5]

/-- A row after `k` rounds. -/
theorem struck_row (v : Vec Ideal S4x8 .f32) (b : Fin 4) : ∀ (k : ℕ) (e : Fin 8), struck v k (ix2 b e) = rest (fun e => v (ix2 b e)) k e
  | 0, _ => rfl
  | k + 1, e => (round_strike (struck v k) b e).trans (congrArg (fun r => strike r e) (funext fun j => struck_row v b k j))

/-- The column put, and the others. -/
theorem put_apply (k : BitVec 32) (p : IVec S4x1 32) (a : IVec S4x8 32) (b : Fin 4) (e : Fin 8) :
    put k p a (ix2 b e) = if BitVec.ofNat 32 e.val = k then p (ix2 b 0) else a (ix2 b e) := by
  have hw : IntOp.cmpi .eq (BitVec.ofNat 32 e.val) k = if BitVec.ofNat 32 e.val = k then 1#1 else 0#1 := by
    unfold IntOp.cmpi
    by_cases h : BitVec.ofNat 32 e.val = k
    · rw [if_pos h]; simp [h]
    · rw [if_neg h]; show BitVec.ofBool (BitVec.ofNat 32 e.val == k) = 0#1; rw [beq_eq_false_iff_ne.mpr h]; rfl
  pointwise [put]
  rw [hw]
  split <;> rfl

/-- The body's positions: column `k` is the pick of the row after `k` rounds. -/
theorem picks_apply (v : Vec Ideal S4x8 .f32) (b : Fin 4) (k : Fin 8) :
    picks v (ix2 b k) = pick (rest (fun e => v (ix2 b e)) k.val) := by
  have h : ∀ n, k0_pay4 (struck v n) (ix2 b 0) = pick (rest (fun e => v (ix2 b e)) n) := fun n =>
    (round_pick (struck v n) b).trans (congrArg pick (funext fun e => struck_row v b n e))
  rw [picks_rounds]
  simp only [put_apply, h]
  generalize (fun n => pick (rest (fun e => v (ix2 b e)) n)) = f
  fin_cases k <;> rfl

end Cert.Router

end
-- ==== Proof.Reference.lean ====
/-
  The reference's three results, stage by stage: the logits, the softmax, the mean over the tokens, the listing of the
  experts, the mask the listing scatters, and the loss.
-/
module

public import proofs.«01_k».proof.Proof.Rounds
public import proofs.«01_k».proof.Proof.Gen.ReferenceIdeal.Run
public import Idealize.ShloMosaic.Lib.Routing.OpsSet
public import Idealize.ShloMosaic.Lib.Routing.OpsPair
public import Idealize.ShloMosaic.Lib.StableHlo.Predicate

@[expose] public section

noncomputable section

namespace Cert.Router.Ref

open Cert.ReferenceIdeal Cert.ReferenceIdeal.Gen Idealize.ShloMosaic Idealize.ShloMosaic.TcCoe Idealize.SL.Sem

section Any

variable {F : FTy → Type} [FloatOps F]

/-- The scaled scores. -/
def logits (x : FVec F S4x4096x2048 .f32) (w : FVec F S2048x2048 .f32) (q : FVec F S2048 .f32) (k : FVec F S8x2048 .f32) : FVec F S4x4096x8 .f32 :=
  mulf (Host.dotGeneral dot_S4x4096x2048_S8x2048_S4x4096x8_2_1_01_0_n_n none
    (addf (Host.dotGeneral dot_S4x4096x2048_S2048x2048_S4x4096x2048_2_1_01_0_n_n none x w)
      (broadcastInDim S4x4096x2048 ![0, 1, 2] bcast_S1x1x2048_S4x4096x2048_0_1_2 (broadcastInDim S1x1x2048 ![2] bcast_S2048_S1x1x2048_2 q))) k)
    (broadcastInDim S4x4096x8 ![] bcast_S_S4x4096x8 (constant S_ .f32 0x3CB504F3#32))

/-- The exponentials of the scores, the greatest subtracted. -/
def exps (l : FVec F S4x4096x8 .f32) : FVec F S4x4096x8 .f32 :=
  Host.exp (subf l (broadcastInDim S4x4096x8 ![0, 1, 2] bcast_S4x4096x1_S4x4096x8_0_1_2 (broadcastInDim S4x4096x1 ![0, 1] bcast_S4x4096_S4x4096x1_0_1
    (maximumf (broadcastInDim S4x4096 ![] bcast_S_S4x4096 (constant S_ .f32 0xFF800000#32))
      (Host.reduce FloatOps.maximumf l (constant S_ .f32 0xFF800000#32) reducesTo_S4x4096x8_S4x4096_d2 h_S_)))))

/-- The softmax of the scores. -/
def softmax (l : FVec F S4x4096x8 .f32) : FVec F S4x4096x8 .f32 :=
  Host.divf (exps l) (broadcastInDim S4x4096x8 ![0, 1, 2] bcast_S4x4096x1_S4x4096x8_0_1_2 (broadcastInDim S4x4096x1 ![0, 1] bcast_S4x4096_S4x4096x1_0_1
    (Host.reduceAdd (exps l) (constant S_ .f32 0x00000000#32) reducesTo_S4x4096x8_S4x4096_d2 h_S_)))

/-- The probabilities' mean over the tokens. -/
def mean (p : FVec F S4x4096x8 .f32) : FVec F S4x8 .f32 :=
  Host.divf (Host.reduceAdd p (constant S_ .f32 0x00000000#32) reducesTo_S4x4096x8_S4x8_d1 h_S_)
    (broadcastInDim S4x8 ![] bcast_S_S4x8 (constant S_ .f32 0x45800000#32))

/-- The experts of each batch listed from the greatest mean down. -/
def listing (v : FVec F S4x8 .f32) : IVec S4x8 32 := (Host.topK S4x8 1 (FloatOps.cmpfTotal .gt) v sliceFits_S4x8_S4x8).2

/-- The batches' numbers, as the scatter takes them. -/
def rowsAt : IVec S4x8x1 32 :=
  broadcastInDim S4x8x1 ![0, 1] bcast_S4x8_S4x8x1_0_1 (broadcastInDim S4x8 ![0, 1] bcast_S4x1_S4x8_0_1
    (select (cmpi .slt (broadcastInDim S4x1 ![0] bcast_S4_S4x1_0 (iotaInDim S4 32 0)) (broadcastInDim S4x1 ![] bcast_S_S4x1 (constantI S_ 32 0#32)))
      (addi (broadcastInDim S4x1 ![0] bcast_S4_S4x1_0 (iotaInDim S4 32 0)) (broadcastInDim S4x1 ![] bcast_S_S4x1 (constantI S_ 32 4#32)))
      (broadcastInDim S4x1 ![0] bcast_S4_S4x1_0 (iotaInDim S4 32 0))))

/-- The listed experts, as the scatter takes them. -/
def colsAt (i : IVec S4x8 32) : IVec S4x8x1 32 :=
  broadcastInDim S4x8x1 ![0, 1] bcast_S4x8_S4x8x1_0_1
    (select (cmpi .slt i (broadcastInDim S4x8 ![] bcast_S_S4x8 (constantI S_ 32 0#32)))
      (addi i (broadcastInDim S4x8 ![] bcast_S_S4x8 (constantI S_ 32 8#32))) i)

/-- Ones put over zeros at the listed experts. -/
def marks (i : IVec S4x8 32) : FVec F S4x8 .f32 :=
  Host.scatter scatter_S4x8_S4x8x2_S4x8_n_01_01_2 (fun _ b => b) (broadcastInDim S4x8 ![] bcast_S_S4x8 (constant S_ .f32 0x00000000#32))
    (concatenate S4x8x2 2 [⟨S4x8x1, rowsAt⟩, ⟨S4x8x1, colsAt i⟩] concatenates_S4x8x1_S4x8x1_S4x8x2_d2)
    (broadcastInDim S4x8 ![] bcast_S_S4x8 (constant S_ .f32 0x3F800000#32))

/-- The marks at every token. -/
def mask (v : FVec F S4x8 .f32) : FVec F S4x4096x8 .f32 :=
  broadcastInDim S4x4096x8 ![0, 1, 2] bcast_S4x1x8_S4x4096x8_0_1_2 (broadcastInDim S4x1x8 ![0, 2] bcast_S4x8_S4x1x8_0_2 v)

/-- An eighth, eight times. -/
def eighths : FVec F S8 .f32 :=
  Host.divf (broadcastInDim S8 ![] bcast_S_S8 (constant S_ .f32 0x3F800000#32)) (broadcastInDim S8 ![] bcast_S_S8 (constant S_ .f32 0x41000000#32))

/-- How far the experts' use is from even. -/
def balance (k : FVec F S4x4096x8 .f32) : FVec F S_ .f32 :=
  Host.divf (Host.reduceAdd (mulf eighths (subf (Host.log eighths)
    (Host.log (Host.divf (Host.reduceAdd k (constant S_ .f32 0x00000000#32) reducesTo_S4x4096x8_S8_d0_1 h_S_)
      (broadcastInDim S8 ![] bcast_S_S8 (constant S_ .f32 0x46800000#32))))))
    (constant S_ .f32 0x00000000#32) reducesTo_S8_S_d0 h_S_) (constant S_ .f32 0x41000000#32)

/-- The mean of `p log (p + ε)`. -/
def spread (p : FVec F S4x4096x8 .f32) : FVec F S_ .f32 :=
  Host.divf (Host.reduceAdd (mulf p (Host.log (addf p (broadcastInDim S4x4096x8 ![] bcast_S_S4x4096x8 (constant S_ .f32 0x3089705F#32)))))
    (constant S_ .f32 0x00000000#32) reducesTo_S4x4096x8_S_d0_1_2 h_S_) (constant S_ .f32 0x48000000#32)

/-- A thousandth. -/
def thousandth : FVec F S_ .f32 := Host.divf (constant S_ .f32 0x3F800000#32) (constant S_ .f32 0x447A0000#32)

variable (m : (ℓ : Loc nD τ sig) → Buf (Elt F) ℓ) (c : Dev nD)

/-- The arguments' scores. -/
def logitsOf : FVec F S4x4096x8 .f32 :=
  logits (m ((c.tc : Thread nD τ).loc main_arg0)) (m ((c.tc : Thread nD τ).loc main_arg1)) (m ((c.tc : Thread nD τ).loc main_arg2))
    (m ((c.tc : Thread nD τ).loc main_arg3))

/-- The first result, in stages. -/
theorem mask_stages : Value.res_main_v41 m c = (mask (marks (listing (mean (softmax (logitsOf m c))))) : FVec F S4x4096x8 .f32) := rfl

/-- The third result, in stages. -/
theorem loss_stages : Value.res_main_v74 m c =
    (addf (mulf thousandth (balance (mask (marks (listing (mean (softmax (logitsOf m c)))))))) (mulf thousandth (spread (softmax (logitsOf m c)))) : FVec F S_ .f32) := rfl

/-- The reference's run, its results in stages. -/
theorem run_stages (ρ : Dev nD → PrngReg) : θ_run defs (onTc (τ := τ) (main (F := F))) ⟨m, fun _ => 0, ρ⟩ fun r => ∀ c : Dev nD,
      r.2.mem ((c.tc : Thread nD τ).loc main_v41) = (mask (marks (listing (mean (softmax (logitsOf m c))))) : FVec F S4x4096x8 .f32)
      ∧ r.2.mem ((c.tc : Thread nD τ).loc main_indices) = listing (mean (softmax (logitsOf m c)))
      ∧ r.2.mem ((c.tc : Thread nD τ).loc main_v74) = (addf (mulf thousandth (balance (mask (marks (listing (mean (softmax (logitsOf m c)))))))) (mulf thousandth (spread (softmax (logitsOf m c)))) : FVec F S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (mask_stages m c), (h c).2.1, (h c).2.2.1.trans (loss_stages m c), (h c).2.2.2⟩) (Value.run m ρ)

end Any

variable (x : FVec Ideal S4x4096x2048 .f32) (w : FVec Ideal S2048x2048 .f32) (q : FVec Ideal S2048 .f32) (k : FVec Ideal S8x2048 .f32)

/-- The scores, entry by entry. -/
theorem logits_apply (b : Fin 4) (s : Fin 4096) (e : Fin 8) : logits x w q k (ix3 b s e) =
    logit (fun b s k => x (ix3 b s k)) (fun o k => w (ix2 o k)) (fun o => q (ix1 o)) (fun e o => k (ix2 e o)) b s e := by
  pointwise [logits, logit, query]

/-- The exponentials, entry by entry. -/
theorem exps_apply (l : FVec Ideal S4x4096x8 .f32) (b : Fin 4) (s : Fin 4096) (e : Fin 8) :
    exps l (ix3 b s e) = Ideal.exp (l (ix3 b s e) - top fun e => l (ix3 b s e)) := by
  pointwise [exps, top]
  rw [negInf]
  exact congrArg (fun t => Ideal.exp (l (ix3 b s e) - t)) (max_eq_right bot_le)

/-- The softmax, entry by entry. -/
theorem softmax_apply (l : FVec Ideal S4x4096x8 .f32) (b : Fin 4) (s : Fin 4096) (e : Fin 8) :
    softmax l (ix3 b s e) = soft (fun e => l (ix3 b s e)) e := by
  unfold soft
  rw [← exps_apply]
  simp only [← exps_apply l b s]
  pointwise [softmax]

/-- The mean, entry by entry. -/
theorem mean_apply (p : FVec Ideal S4x4096x8 .f32) (b : Fin 4) (e : Fin 8) :
    mean p (ix2 b e) = Ideal.div (∑ s, p (ix3 b s e)) (Ideal.ofBits FTy.f32 0x45800000#32) := by
  pointwise [mean]

/-- The mean of `p log (p + ε)`, as a sum over everything. -/
theorem spread_apply (p : FVec Ideal S4x4096x8 .f32) (i : S_.Idx) :
    spread p i = Ideal.div (∑ b, ∑ s, ∑ e, plogp (p (ix3 b s e))) (Ideal.ofBits FTy.f32 0x48000000#32) := by
  pointwise [spread, plogp]

/-- The mask, entry by entry. -/
theorem mask_apply (v : FVec Ideal S4x8 .f32) (b : Fin 4) (s : Fin 4096) (e : Fin 8) : mask v (ix3 b s e) = v (ix2 b e) := by
  pointwise [mask]

/-- The word of 16384. -/
theorem ofBits_16384 : Ideal.ofBits FTy.f32 0x46800000#32 = ((16384 : ℝ) : EReal) := by
  simp [Ideal.ofBits, Ideal.ieee, -EReal.coe_mul]
  norm_num

/-- The word of eight. -/
theorem ofBits_8 : Ideal.ofBits FTy.f32 0x41000000#32 = ((8 : ℝ) : EReal) := by
  simp [Ideal.ofBits, Ideal.ieee, -EReal.coe_mul]
  norm_num

/-- The word of a thousand. -/
theorem ofBits_1000 : Ideal.ofBits FTy.f32 0x447A0000#32 = ((1000 : ℝ) : EReal) := by
  simp [Ideal.ofBits, Ideal.ieee, -EReal.coe_mul]
  norm_num

/-- The word of 4096. -/
theorem ofBits_4096 : Ideal.ofBits FTy.f32 0x45800000#32 = ((4096 : ℝ) : EReal) := by
  simp [Ideal.ofBits, Ideal.ieee, -EReal.coe_mul]
  norm_num

/-- The word of 131072. -/
theorem ofBits_131072 : Ideal.ofBits FTy.f32 0x48000000#32 = ((131072 : ℝ) : EReal) := by
  simp [Ideal.ofBits, Ideal.ieee, -EReal.coe_mul]
  norm_num

/-- The entries that the sum over batches and tokens sends to an expert are that expert's, one for each token. -/
theorem drop_iff (h : S4x4096x8.ReducesTo [0, 1] S8) (e : Fin 8) (i : S4x4096x8.Idx) :
    h.drop i = ix1 e ↔ ∃ t : Fin 4 × Fin 4096, ix3 t.1 t.2 e = i := by
  constructor
  · intro q
    refine ⟨(i 0, i 1), funext fun a => Fin.ext ?_⟩
    match a with
    | ⟨0, _⟩ => rfl
    | ⟨1, _⟩ => rfl
    | ⟨2, _⟩ => exact (congrArg Fin.val (congrFun q 0)).symm
  · rintro ⟨t, rfl⟩
    funext a
    apply Fin.ext
    match a with
    | ⟨0, _⟩ => rfl

/-- The sum of ones over batches and tokens is the number of tokens. -/
theorem count (h : S4x4096x8.ReducesTo [0, 1] S8) (e : Fin 8) :
    Ideal.hostReduceAdd h (fun _ => 1) 0 (ix1 e) = ((16384 : ℝ) : EReal) := by
  unfold Ideal.hostReduceAdd
  rw [Finset.sum_filter_eq_sum_of_fiber _ (fun t : Fin 4 × Fin 4096 => ix3 t.1 t.2 e)
    (fun _ _ q => Prod.ext (congrFun q 0) (congrFun q 1)) (drop_iff h e), zero_add, Finset.sum_const, Finset.card_univ, Fintype.card_prod,
    Fintype.card_fin, Fintype.card_fin, nsmul_one]
  norm_cast

/-- The quotient of two reals. -/
theorem div_real (r s : ℝ) (h : s ≠ 0) : Ideal.div (r : EReal) (s : EReal) = ((r / s : ℝ) : EReal) := by
  rw [Ideal.div_coe h, ← EReal.coe_mul, mul_one_div]

/-- The logarithm of a positive real. -/
theorem log_real (r : ℝ) (h : 0 < r) : Ideal.log (r : EReal) = ((Real.log r : ℝ) : EReal) := if_neg (not_le.mpr h)

/-- Used evenly, the experts' balance is the logarithm of an eighth over eight. -/
theorem balance_ones (i : S_.Idx) (v : FVec Ideal S4x4096x8 .f32) (hv : v = fun _ => 1) :
    balance v i = ((Real.log (1 / 8) * 8⁻¹ : ℝ) : EReal) := by
  subst hv
  pointwise [balance, eighths]
  simp only [count]
  rw [ofBits_16384, ofBits_8, ← EReal.coe_one, div_real 1 8 (by norm_num), div_real 16384 16384 (by norm_num), log_real _ (by norm_num),
    log_real _ (by norm_num), div_self (by norm_num), Real.log_one, ← EReal.coe_sub, ← EReal.coe_mul, Finset.sum_const, Finset.card_univ,
    Fintype.card_fin, ← EReal.coe_nsmul, div_real _ 8 (by norm_num)]
  congr 1
  simp only [nsmul_eq_mul, Nat.cast_ofNat, sub_zero]
  ring

/-- The coefficient is a thousandth. -/
theorem thousandth_apply (i : S_.Idx) : (thousandth : FVec Ideal S_ .f32) i = ((1 / 1000 : ℝ) : EReal) := by
  pointwise [thousandth]
  rw [ofBits_1000, ← EReal.coe_one, div_real 1 1000 (by norm_num)]

/-- The batches' numbers, entry by entry. -/
theorem rows_apply (b : Fin 4) (k : Fin 8) : rowsAt (ix3 b k 0) = BitVec.ofNat 32 b.val := by
  pointwise [rowsAt]
  revert b
  decide

/-- The listed experts, entry by entry, when they are numbers below eight. -/
theorem cols_apply (i : IVec S4x8 32) (b : Fin 4) (k e : Fin 8) (h : i (ix2 b k) = BitVec.ofNat 32 e.val) :
    colsAt i (ix3 b k 0) = BitVec.ofNat 32 e.val := by
  pointwise [colsAt]
  rw [h]
  clear h
  revert e
  decide

/-- The scatter's first column of numbers. -/
theorem cat_left (b : Fin 4) (k : Fin 8) (r s : IVec S4x8x1 32) :
    concatenate S4x8x2 2 [⟨S4x8x1, r⟩, ⟨S4x8x1, s⟩] concatenates_S4x8x1_S4x8x1_S4x8x2_d2 (ix3 b k 0) = r (ix3 b k 0) := by
  pointwise

/-- The scatter's second column of numbers. -/
theorem cat_right (b : Fin 4) (k : Fin 8) (r s : IVec S4x8x1 32) :
    concatenate S4x8x2 2 [⟨S4x8x1, r⟩, ⟨S4x8x1, s⟩] concatenates_S4x8x1_S4x8x1_S4x8x2_d2 (ix3 b k 1) = s (ix3 b k 0) := by
  pointwise

/-- When every row of the listing has all the experts, every expert is marked. -/
theorem marks_ones (i : IVec S4x8 32) (f : Fin 4 → Fin 8 → Fin 8) (hf : ∀ b, Function.Surjective (f b))
    (hi : ∀ b k, i (ix2 b k) = BitVec.ofNat 32 (f b k).val) (b : Fin 4) (e : Fin 8) : (marks i : FVec Ideal S4x8 .f32) (ix2 b e) = 1 := by
  obtain ⟨k, hk⟩ := hf b e
  unfold marks
  refine Routing.scatter_set_hit _ _ _ _ _ _ (fun t _ => ?_) (ix2 b k) ?_
  · exact Ideal.ofBits_one_f32
  · refine (Routing.scatter_lands2 _ rfl rfl rfl _ b k b e).mpr ⟨?_, ?_⟩
    · exact (congrArg BitVec.toInt ((cat_left b k _ _).trans (rows_apply b k))).trans (StableHlo.Predicate.toInt_ofNat_small _ (by omega))
    · exact (congrArg BitVec.toInt ((cat_right b k _ _).trans (cols_apply i b k e (by rw [hi b k, hk])))).trans
        (StableHlo.Predicate.toInt_ofNat_small _ (by omega))

/-- The second array a sort permutes, at an index: the array along the sorted axis, at the position sorted there. -/
theorem sort2_at {s : Shape} {α β : Type} (d : ℕ) (hd : d < s.rank) (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The position along a row. -/
theorem along_row (b : Fin 4) (k a : Fin 8) : Shape.Idx.along (s := S4x8) (ix2 b k) 1 a = ix2 b a := funext fun d => by
  match d with
  | ⟨0, _⟩ => rfl
  | ⟨1, _⟩ => rfl

/-- The number of a position along a row. -/
theorem iota_along (b : Fin 4) (k a : Fin 8) :
    iotaInDim S4x8 32 1 (Shape.Idx.along (s := S4x8) (ix2 b k) 1 a) = BitVec.ofNat 32 a.val := by
  rw [along_row]
  rfl

/-- The order of the extended reals, as the comparison's bit. -/
theorem greater_bit (p r : EReal) : (FloatOps.cmpfTotal (F := Ideal) (φ := .f32) .gt p r == 1#1) = decide (r < p) := by
  show (BitVec.ofBool (decide (r < p)) == 1#1) = decide (r < p)
  cases decide (r < p) <;> rfl

/-- A whole slice of an `S4x8` array is the array. -/
theorem slice_whole {α : Type} (x : S4x8.Idx → α) (h : S4x8.Slices (fun _ => 0) S4x8) (b : Fin 4) (k : Fin 8) :
    extractStridedSlice S4x8 (fun _ => 0) x h (ix2 b k) = x (ix2 b k) := by
  unfold extractStridedSlice
  exact congrArg x (funext fun a => Fin.ext (Nat.zero_add _))

/-- The listing, entry by entry: the row's stable sort. -/
theorem listing_apply (v : FVec Ideal S4x8 .f32) (b : Fin 4) (k : Fin 8) : listing v (ix2 b k)
    = BitVec.ofNat 32 (sortedFrom (fun a a' : Fin 8 => decide (v (ix2 b a') < v (ix2 b a))) k).val := by
  unfold listing Host.topK
  dsimp only
  rw [slice_whole, sort2_at 1 (by decide)]
  rw [dif_pos (by decide)]
  refine (iota_along b k _).trans (congrArg (fun f : Fin 8 → Fin 8 → Bool => BitVec.ofNat 32 (sortedFrom f k).val) (funext fun a => funext fun a' => ?_))
  exact (congrArg₂ (fun p r : EReal => FloatOps.cmpfTotal (F := Ideal) (φ := .f32) .gt p r == 1#1) (congrArg v (along_row b k a))
    (congrArg v (along_row b k a'))).trans (greater_bit _ _)

end Cert.Router.Ref

end
-- ==== Proof.Results.lean ====
/-
  The three results of each program as the same functions of the arguments: the mask is one everywhere, the listing is
  the stable sort of each batch's loads, and the loss is the even balance's term plus a thousandth of the mean of
  `p log (p + ε)`.
-/
module

public import proofs.«01_k».proof.Proof.Reference

@[expose] public section

noncomputable section

namespace Cert.Router

open Idealize.ShloMosaic Idealize.ShloMosaic.TcCoe Idealize.SL.Sem

/-- The experts of a batch from the greatest load down, equal loads by number. -/
def order (L : Fin 4 → Fin 8 → EReal) (b : Fin 4) (k : Fin 8) : Fin 8 := sortedFrom (fun a a' => decide (L b a' < L b a)) k

/-- The loss from the sum of `p log (p + ε)`. -/
def lossOf (t : EReal) : EReal :=
  (((1 / 1000) * (Real.log (1 / 8) * 8⁻¹) : ℝ) : EReal) + ((1 / 1000 : ℝ) : EReal) * Ideal.div t ((131072 : ℝ) : EReal)

/-- Every row of the order has all the experts. -/
theorem order_surjective (L : Fin 4 → Fin 8 → EReal) (b : Fin 4) : Function.Surjective (order L b) := sortedFrom_surjective _

/-- Dividing two positive reals by 4096 keeps their order. -/
theorem div_lt_iff {v w : EReal} (hv : IsPos v) (hw : IsPos w) :
    Ideal.div v ((4096 : ℝ) : EReal) < Ideal.div w ((4096 : ℝ) : EReal) ↔ v < w := by
  obtain ⟨r, -, rfl⟩ := hv; obtain ⟨s, -, rfl⟩ := hw
  rw [Ref.div_real _ _ (by norm_num), Ref.div_real _ _ (by norm_num), EReal.coe_lt_coe_iff, EReal.coe_lt_coe_iff]
  exact div_lt_div_iff_of_pos_right (by norm_num)

namespace Ref

open Cert.ReferenceIdeal Cert.ReferenceIdeal.Gen

variable (X : Fin 4 → Fin 4096 → Fin 2048 → EReal) (W : Fin 2048 → Fin 2048 → EReal) (Q : Fin 2048 → EReal) (K : Fin 8 → Fin 2048 → EReal)
variable (l : FVec Ideal S4x4096x8 .f32) (hl : ∀ b s e, l (ix3 b s e) = logit X W Q K b s e)
include hl

/-- The softmax is the probabilities. -/
theorem softmax_prob (b : Fin 4) (s : Fin 4096) (e : Fin 8) : softmax l (ix3 b s e) = prob X W Q K b s e := by
  rw [softmax_apply]
  exact congrArg (fun f => soft f e) (funext fun j => hl b s j)

/-- The mean is the load over the number of tokens. -/
theorem mean_load (b : Fin 4) (e : Fin 8) : mean (softmax l) (ix2 b e) = Ideal.div (load X W Q K b e) ((4096 : ℝ) : EReal) := by
  rw [mean_apply, ofBits_4096]
  exact congrArg (fun t => Ideal.div t _) (Finset.sum_congr rfl fun s _ => softmax_prob X W Q K l hl b s e)

/-- The listing is the order of the loads. -/
theorem listing_order (hp : ∀ b e, IsPos (load X W Q K b e)) (b : Fin 4) (k : Fin 8) :
    listing (mean (softmax l)) (ix2 b k) = BitVec.ofNat 32 (order (load X W Q K) b k).val := by
  rw [listing_apply]
  refine congrArg (fun f : Fin 8 → Fin 8 → Bool => BitVec.ofNat 32 (sortedFrom f k).val) (funext fun a => funext fun a' => ?_)
  rw [mean_load X W Q K l hl, mean_load X W Q K l hl]
  exact decide_eq_decide.mpr (div_lt_iff (hp b a') (hp b a))

/-- The mask is one everywhere. -/
theorem mask_result (hp : ∀ b e, IsPos (load X W Q K b e)) :
    (mask (marks (listing (mean (softmax l)))) : FVec Ideal S4x4096x8 .f32) = fun _ => 1 := by
  funext i
  obtain ⟨b, s, e, rfl⟩ : ∃ b s e, i = ix3 b s e := ⟨i 0, i 1, i 2, funext fun a => by
    match a with
    | ⟨0, _⟩ => rfl
    | ⟨1, _⟩ => rfl
    | ⟨2, _⟩ => rfl⟩
  rw [mask_apply]
  exact marks_ones _ _ (order_surjective (load X W Q K)) (listing_order X W Q K l hl hp) b e

/-- The loss. -/
theorem loss_result (hp : ∀ b e, IsPos (load X W Q K b e)) (i : S_.Idx) :
    (addf (mulf thousandth (balance (mask (marks (listing (mean (softmax l))))))) (mulf thousandth (spread (softmax l))) : FVec Ideal S_ .f32) i
      = lossOf (total X W Q K) := by
  have h : (addf (mulf thousandth (balance (mask (marks (listing (mean (softmax l))))))) (mulf thousandth (spread (softmax l))) : FVec Ideal S_ .f32) i
      = (thousandth : FVec Ideal S_ .f32) i * balance (mask (marks (listing (mean (softmax l))))) i
        + (thousandth : FVec Ideal S_ .f32) i * spread (softmax l) i := rfl
  rw [h, thousandth_apply, balance_ones i _ (mask_result X W Q K l hl hp), spread_apply, ofBits_131072, ← EReal.coe_mul]
  unfold lossOf total
  simp only [softmax_prob X W Q K l hl]

end Ref

open Cert.KernelIdeal Cert.KernelIdeal.Gen

variable (m : (ℓ : Loc nD τ sig) → Buf (Elt Ideal) ℓ) (c : Dev nD)

/-- The kernel's mask is one everywhere. -/
theorem maskArr_one : (maskArr (F := Ideal) : FVec Ideal S4x4096x8 .f32) = fun _ => 1 := by
  unfold maskArr
  exact funext fun i => Ideal.ofBits_one_f32

/-- The kernel's listing is the order of the loads. -/
theorem picks_order (hp : ∀ b e, IsPos (load (argX m c) (argW m c) (argQ m c) (argK m c) b e)) (b : Fin 4) (k : Fin 8) :
    picksArr m c (ix2 b k) = BitVec.ofNat 32 (order (load (argX m c) (argW m c) (argQ m c) (argK m c)) b k).val := by
  unfold picksArr
  rw [picks_apply]
  simp only [loads_last]
  exact pick_rest _ (fun e => by obtain ⟨r, -, h⟩ := hp b e; rw [h]; exact EReal.coe_ne_bot r) k

/-- The kernel's loss from its running sum. -/
theorem pay_loss (a : Vec Ideal S1x1 .f32) : k0_pay3 a (ix2 0 0) = lossOf (a (ix2 0 0)) := by
  have h : k0_pay3 a (ix2 0 0) = Named.named (F := Ideal) (φ := .f32) κ "balance" 0xB988473D#32
      + Ideal.div (Named.named (F := Ideal) (φ := .f32) κ "coef" 0x3A83126F#32 * a (ix2 0 0)) (Ideal.ofBits FTy.f32 0x48000000#32) := rfl
  rw [h, IdealRules.named_const.ideal_named_scalar κ "balance" _ _ rfl, IdealRules.named_const.ideal_named_scalar κ "coef" _ _ rfl,
    Ref.ofBits_131072, Ideal.div_coe (by norm_num)]
  unfold lossOf
  rw [Ideal.div_coe (by norm_num), mul_assoc]

/-- The kernel's loss. -/
theorem loss_result (i : S_.Idx) : lossScalar m c i = lossOf (total (argX m c) (argW m c) (argQ m c) (argK m c)) := by
  unfold lossScalar
  rw [← ents_last, ← pay_loss]
  pointwise

end Cert.Router

end
-- ==== Proof.Equal.lean ====
/-
  The two programs' results are equal when every argument is finite: both are the functions of the arguments of
  Proof/Results.lean, and finite arguments make every load a positive real.
-/
module

public import proofs.«01_k».proof.Defs
public import proofs.«01_k».proof.Proof.Results

@[expose] public section

noncomputable section

namespace Cert.Router

open Idealize.ShloMosaic Idealize.ShloMosaic.TcCoe Idealize.SL.Sem

/-- The side conditions of the precondition's function. -/
theorem finite_facts : Cert.Pre_finite_inputs.Facts where
  bcast_S_S4x4096x2048 := by decide
  bcast_S_S2048x2048 := by decide
  bcast_S_S2048 := by decide
  bcast_S_S8x2048 := by decide

/-- The word of infinity. -/
theorem ofBits_top : Ideal.ofBits FTy.f32 0x7F800000#32 = ⊤ := by
  simp [Ideal.ofBits, Ideal.ieee]

/-- An entry whose comparison with infinity came out true is a real. -/
theorem real_of_bit {v : EReal} (h : BitVec.ofBool (decide (max v (-v) < Ideal.ofBits FTy.f32 0x7F800000#32)) = 1#1) : IsReal v := by
  rw [ofBits_top] at h
  refine isReal_of_abs (of_decide_eq_true ?_)
  revert h
  cases decide (max v (-v) < ⊤) <;> simp

section Kernel

open Cert.KernelIdeal

variable [Cert.Pre_finite_inputs.Facts] (m : (ℓ : Loc nD τ sig) → Buf (Elt Ideal) ℓ) (h : Cert.Pre_KernelIdeal_finite_inputs m) (c : Dev nD)
include h

/-- The tokens are real. -/
theorem argX_real (b : Fin 4) (s : Fin 4096) (k : Fin 2048) : IsReal (argX m c b s k) := real_of_bit (congrFun (h c).1 (ix3 b s k))

/-- The query weights are real. -/
theorem argW_real (o k : Fin 2048) : IsReal (argW m c o k) := real_of_bit (congrFun (h c).2.1 (ix2 o k))

/-- The query bias is real. -/
theorem argQ_real (o : Fin 2048) : IsReal (argQ m c o) := real_of_bit (congrFun (h c).2.2.1 (ix1 o))

/-- The experts' keys are real. -/
theorem argK_real (e : Fin 8) (o : Fin 2048) : IsReal (argK m c e o) := real_of_bit (congrFun (h c).2.2.2 (ix2 e o))

/-- Every load is a positive real. -/
theorem arg_load_pos (b : Fin 4) (e : Fin 8) : IsPos (load (argX m c) (argW m c) (argQ m c) (argK m c) b e) :=
  load_pos (argX_real m h c) (argW_real m h c) (argQ_real m h c) (argK_real m h c) b e

end Kernel

/-- An index of a row of eight is its two coordinates. -/
theorem idx_row (i : Cert.KernelIdeal.S4x8.Idx) : ∃ b k, i = ix2 b k := ⟨i 0, i 1, funext fun a => by
  match a with
  | ⟨0, _⟩ => rfl
  | ⟨1, _⟩ => rfl⟩

/-- The reference's scores of the kernel's arguments. -/
theorem ref_logits (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (b : Fin 4) (s : Fin 4096) (e : Fin 8) :
    Ref.logitsOf (F := Ideal) m' c (ix3 b s e) = logit (argX m c) (argW m c) (argQ m c) (argK m c) b s e := by
  unfold Ref.logitsOf
  rw [h.1, h.2.1, h.2.2.1, h.2.2.2]
  exact Ref.logits_apply _ _ _ _ b s e

/-- On finite arguments the two idealized programs give the same mask, the same listing and the same loss. -/
theorem equal [Cert.Pre_finite_inputs.Facts] : Cert.algebraic_KernelIdeal_ReferenceIdeal_pre_finite_inputs := by
  intro m g m' g' hpre harg
  have hp := fun c => arg_load_pos m hpre c
  have hl := fun c => ref_logits m m' c (harg c)
  refine ⟨fun c => maskArr, fun c => picksArr m c, fun c => lossScalar m c, kernel_run m g, ?_⟩
  refine (θ_run Cert.ReferenceIdeal.defs _ _).mono (fun r h c => ⟨(h c).1.trans ?_, (h c).2.1.trans ?_, (h c).2.2.1.trans ?_, (h c).2.2.2⟩)
    (Ref.run_stages (F := Ideal) m' g')
  · exact (Ref.mask_result _ _ _ _ _ (hl c) (hp c)).trans maskArr_one.symm
  · refine funext fun i => ?_
    obtain ⟨b, k, rfl⟩ := idx_row i
    exact (Ref.listing_order _ _ _ _ _ (hl c) (hp c) b k).trans (picks_order m c (hp c) b k).symm
  · exact funext fun i => (Ref.loss_result _ _ _ _ _ (hl c) (hp c) i).trans (loss_result m c i).symm

end Cert.Router

end
-- ==== Proof.lean ====
module

public import proofs.«01_k».proof.Defs
public import proofs.«01_k».proof.Proof.Frames
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Router.finite_facts,
    Cert.Router.frame_kernel, Cert.Router.frame_ideal, fun m g _ => Cert.Router.frame_ideal m g trivial,
    Cert.Router.frame_reference, fun m g _ => Cert.Router.frame_reference m g trivial, Cert.Router.names,
    @Cert.Router.equal Cert.Router.finite_facts⟩

end Cert.Proof

end
